-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 4096]⟩ ⟨3, ![4, 4096, 4096]⟩ (Layout.meshBlock [2, 4, 4] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![4096, 1024]⟩ ⟨2, ![4096, 4096]⟩ (Layout.meshBlock [2, 4, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096x4096 : Shape := ⟨2, ![4096, 4096]⟩
abbrev S4096x1024 : Shape := ⟨2, ![4096, 1024]⟩
abbrev S4x3x512x256 : Shape := ⟨4, ![4, 3, 512, 256]⟩
abbrev S4x4x512x256 : Shape := ⟨4, ![4, 4, 512, 256]⟩
abbrev S4x4 : Shape := ⟨2, ![4, 4]⟩
abbrev S4x3 : Shape := ⟨2, ![4, 3]⟩
abbrev S_ : Shape := ⟨0, ![]⟩
abbrev S1x1 : Shape := ⟨2, ![1, 1]⟩
abbrev S1x1x512x256 : Shape := ⟨4, ![1, 1, 512, 256]⟩
abbrev S512x256 : Shape := ⟨2, ![512, 256]⟩

abbrev nBuf : Space → Nat
  | .hbm => 3
  | .vmem => 4
  | .smem => 0
  | _ => 0

abbrev bufTy : (tb : Table) → Fin (tcTables nBuf tb) → BufTy
  | .hbm, ⟨0, _⟩ => ⟨S1x4096x4096, .f32⟩
  | .hbm, ⟨1, _⟩ => ⟨S4096x4096, .f32⟩
  | .hbm, ⟨2, _⟩ => ⟨S4096x1024, .bf16⟩
  | .local _ .vmem, ⟨0, _⟩ => ⟨S4096x1024, .bf16⟩
  | .local _ .vmem, ⟨1, _⟩ => ⟨S4x3x512x256, .bf16⟩
  | .local _ .vmem, ⟨2, _⟩ => ⟨S4x3x512x256, .bf16⟩
  | .local _ .vmem, ⟨3, _⟩ => ⟨S4x4x512x256, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  (ofTc nBuf bufTy 1 97 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_7 : BitVec 32 := 16#32
  let v14 : BitVec 32 := Scalar.muli v2 c16_i32_7
  let v15 : BitVec 32 := Scalar.addi c0_i32 v14
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_5 : BitVec 32 := 4#32
  let v13 : BitVec 32 := Scalar.remsi v12 c4_i32_5
  let c4_i32_8 : BitVec 32 := 4#32
  let v16 : BitVec 32 := Scalar.muli v13 c4_i32_8
  let v17 : BitVec 32 := Scalar.addi v15 v16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v18 : BitVec 32 := Scalar.muli v8 c1_i32_9
  let v19 : BitVec 32 := Scalar.addi v17 v18
  v19.toNat
def k0_dev2 (d0 : Dev nD) : Nat :=
  let c0_i32_14 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_13 : BitVec 32 := 16#32
  let v22 : BitVec 32 := Scalar.muli v2 c16_i32_13
  let v23 : BitVec 32 := Scalar.addi c0_i32_14 v22
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let v20 : BitVec 32 := Scalar.addi v5 c2_i32_10
  let c4_i32_11 : BitVec 32 := 4#32
  let v21 : BitVec 32 := Scalar.remsi v20 c4_i32_11
  let c4_i32_15 : BitVec 32 := 4#32
  let v24 : BitVec 32 := Scalar.muli v21 c4_i32_15
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v26 : BitVec 32 := Scalar.muli v8 c1_i32_16
  let v27 : BitVec 32 := Scalar.addi v25 v26
  v27.toNat
def k0_dev3 (d0 : Dev nD) : Nat :=
  let c0_i32_20 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_19 : BitVec 32 := 16#32
  let v30 : BitVec 32 := Scalar.muli v2 c16_i32_19
  let v31 : BitVec 32 := Scalar.addi c0_i32_20 v30
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v28 : BitVec 32 := Scalar.addi v5 c3_i32
  let c4_i32_17 : BitVec 32 := 4#32
  let v29 : BitVec 32 := Scalar.remsi v28 c4_i32_17
  let c4_i32_21 : BitVec 32 := 4#32
  let v32 : BitVec 32 := Scalar.muli v29 c4_i32_21
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v34 : BitVec 32 := Scalar.muli v8 c1_i32_22
  let v35 : BitVec 32 := Scalar.addi v33 v34
  v35.toNat
def k0_dev4 (d0 : Dev nD) : Nat :=
  let c0_i32_27 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_26 : BitVec 32 := 16#32
  let v38 : BitVec 32 := Scalar.muli v2 c16_i32_26
  let v39 : BitVec 32 := Scalar.addi c0_i32_27 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_28 : BitVec 32 := 4#32
  let v40 : BitVec 32 := Scalar.muli v5 c4_i32_28
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v36 : BitVec 32 := Scalar.addi v8 c1_i32_23
  let c4_i32_24 : BitVec 32 := 4#32
  let v37 : BitVec 32 := Scalar.remsi v36 c4_i32_24
  let c1_i32_29 : BitVec 32 := 1#32
  let v42 : BitVec 32 := Scalar.muli v37 c1_i32_29
  let v43 : BitVec 32 := Scalar.addi v41 v42
  v43.toNat
def k0_dev5 (d0 : Dev nD) : Nat :=
  let c0_i32_34 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_33 : BitVec 32 := 16#32
  let v46 : BitVec 32 := Scalar.muli v2 c16_i32_33
  let v47 : BitVec 32 := Scalar.addi c0_i32_34 v46
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_35 : BitVec 32 := 4#32
  let v48 : BitVec 32 := Scalar.muli v5 c4_i32_35
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_30 : BitVec 32 := 2#32
  let v44 : BitVec 32 := Scalar.addi v8 c2_i32_30
  let c4_i32_31 : BitVec 32 := 4#32
  let v45 : BitVec 32 := Scalar.remsi v44 c4_i32_31
  let c1_i32_36 : BitVec 32 := 1#32
  let v50 : BitVec 32 := Scalar.muli v45 c1_i32_36
  let v51 : BitVec 32 := Scalar.addi v49 v50
  v51.toNat
def k0_dev6 (d0 : Dev nD) : Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_40 : BitVec 32 := 16#32
  let v54 : BitVec 32 := Scalar.muli v2 c16_i32_40
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_42 : BitVec 32 := 4#32
  let v56 : BitVec 32 := Scalar.muli v5 c4_i32_42
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_37 : BitVec 32 := 3#32
  let v52 : BitVec 32 := Scalar.addi v8 c3_i32_37
  let c4_i32_38 : BitVec 32 := 4#32
  let v53 : BitVec 32 := Scalar.remsi v52 c4_i32_38
  let c1_i32_43 : BitVec 32 := 1#32
  let v58 : BitVec 32 := Scalar.muli v53 c1_i32_43
  let v59 : BitVec 32 := Scalar.addi v57 v58
  v59.toNat
def k0_dev7 (d0 : Dev nD) : Nat :=
  let c0_i32_46 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.addi v2 c1_i32_2
  let c2_i32_3 : BitVec 32 := 2#32
  let v10 : BitVec 32 := Scalar.remsi v9 c2_i32_3
  let c16_i32_45 : BitVec 32 := 16#32
  let v60 : BitVec 32 := Scalar.muli v10 c16_i32_45
  let v61 : BitVec 32 := Scalar.addi c0_i32_46 v60
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_47 : BitVec 32 := 4#32
  let v62 : BitVec 32 := Scalar.muli v5 c4_i32_47
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v64 : BitVec 32 := Scalar.muli v8 c1_i32_48
  let v65 : BitVec 32 := Scalar.addi v63 v64
  v65.toNat
def k0_off1 (d0 : Dev nD) (c0_i32_354 : BitVec 32) (c0_i32_357 : BitVec 32) : Fin 2 → Nat :=
  let c2_i32_49 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v66 : BitVec 32 := Scalar.muli c2_i32_49 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v67 : BitVec 32 := Scalar.addi v66 v2
  let c512_i32 : BitVec 32 := 512#32
  let v68 : BitVec 32 := Scalar.muli v67 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v417 : BitVec 32 := Scalar.addi v5 c0_i32_354
  let c1_i32_355 : BitVec 32 := 1#32
  let v418 : BitVec 32 := Scalar.addi v417 c1_i32_355
  let c4_i32_356 : BitVec 32 := 4#32
  let v419 : BitVec 32 := Scalar.remsi v418 c4_i32_356
  let c1024_i32 : BitVec 32 := 1024#32
  let v420 : BitVec 32 := Scalar.muli v419 c1024_i32
  let v421 : BitVec 32 := Scalar.addi v420 c0_i32_357
  ![v68.toNat, v421.toNat]
def k0_off2 (d0 : Dev nD) (c0_i32_387 : BitVec 32) : Fin 2 → Nat :=
  let c2_i32_49 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v66 : BitVec 32 := Scalar.muli c2_i32_49 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v67 : BitVec 32 := Scalar.addi v66 v2
  let c512_i32 : BitVec 32 := 512#32
  let v68 : BitVec 32 := Scalar.muli v67 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_386 : BitVec 32 := 1024#32
  let v447 : BitVec 32 := Scalar.muli v5 c1024_i32_386
  let v448 : BitVec 32 := Scalar.addi v447 c0_i32_387
  ![v68.toNat, v448.toNat]
def k0_dev8 (d0 : Dev nD) : Nat :=
  let c0_i32_537 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_536 : BitVec 32 := 16#32
  let v576 : BitVec 32 := Scalar.muli v2 c16_i32_536
  let v577 : BitVec 32 := Scalar.addi c0_i32_537 v576
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_50 : BitVec 32 := 0#32
  let v69 : BitVec 32 := Scalar.addi v5 c0_i32_50
  let c1_i32_51 : BitVec 32 := 1#32
  let v70 : BitVec 32 := Scalar.addi v69 c1_i32_51
  let c4_i32_52 : BitVec 32 := 4#32
  let v71 : BitVec 32 := Scalar.remsi v70 c4_i32_52
  let c4_i32_538 : BitVec 32 := 4#32
  let v578 : BitVec 32 := Scalar.muli v71 c4_i32_538
  let v579 : BitVec 32 := Scalar.addi v577 v578
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_539 : BitVec 32 := 1#32
  let v580 : BitVec 32 := Scalar.muli v8 c1_i32_539
  let v581 : BitVec 32 := Scalar.addi v579 v580
  v581.toNat
def k0_dev9 (d0 : Dev nD) : Nat :=
  let c0_i32_566 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_565 : BitVec 32 := 16#32
  let v601 : BitVec 32 := Scalar.muli v2 c16_i32_565
  let v602 : BitVec 32 := Scalar.addi c0_i32_566 v601
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_53 : BitVec 32 := 1#32
  let v72 : BitVec 32 := Scalar.addi v5 c1_i32_53
  let c1_i32_54 : BitVec 32 := 1#32
  let v73 : BitVec 32 := Scalar.addi v72 c1_i32_54
  let c4_i32_55 : BitVec 32 := 4#32
  let v74 : BitVec 32 := Scalar.remsi v73 c4_i32_55
  let c4_i32_567 : BitVec 32 := 4#32
  let v603 : BitVec 32 := Scalar.muli v74 c4_i32_567
  let v604 : BitVec 32 := Scalar.addi v602 v603
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_568 : BitVec 32 := 1#32
  let v605 : BitVec 32 := Scalar.muli v8 c1_i32_568
  let v606 : BitVec 32 := Scalar.addi v604 v605
  v606.toNat
def k0_dev10 (d0 : Dev nD) : Nat :=
  let c0_i32_595 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_594 : BitVec 32 := 16#32
  let v626 : BitVec 32 := Scalar.muli v2 c16_i32_594
  let v627 : BitVec 32 := Scalar.addi c0_i32_595 v626
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_56 : BitVec 32 := 2#32
  let v75 : BitVec 32 := Scalar.addi v5 c2_i32_56
  let c1_i32_57 : BitVec 32 := 1#32
  let v76 : BitVec 32 := Scalar.addi v75 c1_i32_57
  let c4_i32_58 : BitVec 32 := 4#32
  let v77 : BitVec 32 := Scalar.remsi v76 c4_i32_58
  let c4_i32_596 : BitVec 32 := 4#32
  let v628 : BitVec 32 := Scalar.muli v77 c4_i32_596
  let v629 : BitVec 32 := Scalar.addi v627 v628
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_597 : BitVec 32 := 1#32
  let v630 : BitVec 32 := Scalar.muli v8 c1_i32_597
  let v631 : BitVec 32 := Scalar.addi v629 v630
  v631.toNat
def k0_off3 (d0 : Dev nD) : Fin 2 → Nat :=
  let c2_i32_49 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v66 : BitVec 32 := Scalar.muli c2_i32_49 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v67 : BitVec 32 := Scalar.addi v66 v2
  let c512_i32 : BitVec 32 := 512#32
  let v68 : BitVec 32 := Scalar.muli v67 c512_i32
  let v711 : Index := Scalar.indexCast v68
  let c0_710 : Index := 0#32
  ![v711.toNat, 0]
def k0_off4 (d0 : Dev nD) (c0_i32_195 : BitVec 32) : Fin 2 → Nat :=
  let c2_i32_197 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_194 : BitVec 32 := 4#32
  let v225 : BitVec 32 := Scalar.addi v8 c4_i32_194
  let v226 : BitVec 32 := Scalar.subi v225 c0_i32_195
  let c4_i32_196 : BitVec 32 := 4#32
  let v227 : BitVec 32 := Scalar.remsi v226 c4_i32_196
  let v228 : BitVec 32 := Scalar.muli c2_i32_197 v227
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v229 : BitVec 32 := Scalar.addi v228 v2
  let c512_i32_198 : BitVec 32 := 512#32
  let v230 : BitVec 32 := Scalar.muli v229 c512_i32_198
  let c0_i32_719 : BitVec 32 := 0#32
  ![v230.toNat, 0]
def k0_dev11 (d0 : Dev nD) : Nat :=
  let c0_i32_716 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.addi v2 c1_i32_2
  let c2_i32_3 : BitVec 32 := 2#32
  let v10 : BitVec 32 := Scalar.remsi v9 c2_i32_3
  let c16_i32_715 : BitVec 32 := 16#32
  let v713 : BitVec 32 := Scalar.muli v10 c16_i32_715
  let v714 : BitVec 32 := Scalar.addi c0_i32_716 v713
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_717 : BitVec 32 := 4#32
  let v715 : BitVec 32 := Scalar.muli v5 c4_i32_717
  let v716 : BitVec 32 := Scalar.addi v714 v715
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_718 : BitVec 32 := 1#32
  let v717 : BitVec 32 := Scalar.muli v8 c1_i32_718
  let v718 : BitVec 32 := Scalar.addi v716 v717
  v718.toNat
def k0_off5 (d0 : Dev nD) : Fin 2 → Nat :=
  let c2_i32_49 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v66 : BitVec 32 := Scalar.muli c2_i32_49 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v67 : BitVec 32 := Scalar.addi v66 v2
  let c512_i32 : BitVec 32 := 512#32
  let v68 : BitVec 32 := Scalar.muli v67 c512_i32
  let c0_i32_729 : BitVec 32 := 0#32
  ![v68.toNat, 0]
def k0_dev12 (d0 : Dev nD) : Nat :=
  let c0_i32_726 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_725 : BitVec 32 := 16#32
  let v725 : BitVec 32 := Scalar.muli v2 c16_i32_725
  let v726 : BitVec 32 := Scalar.addi c0_i32_726 v725
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_727 : BitVec 32 := 4#32
  let v727 : BitVec 32 := Scalar.muli v5 c4_i32_727
  let v728 : BitVec 32 := Scalar.addi v726 v727
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_86 : BitVec 32 := 1#32
  let v105 : BitVec 32 := Scalar.addi v8 c1_i32_86
  let c4_i32_87 : BitVec 32 := 4#32
  let v106 : BitVec 32 := Scalar.remsi v105 c4_i32_87
  let c1_i32_728 : BitVec 32 := 1#32
  let v729 : BitVec 32 := Scalar.muli v106 c1_i32_728
  let v730 : BitVec 32 := Scalar.addi v728 v729
  v730.toNat
def k0_dev13 (d0 : Dev nD) : Nat :=
  let c0_i32_736 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_735 : BitVec 32 := 16#32
  let v737 : BitVec 32 := Scalar.muli v2 c16_i32_735
  let v738 : BitVec 32 := Scalar.addi c0_i32_736 v737
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v739 : BitVec 32 := Scalar.muli v5 c4_i32_737
  let v740 : BitVec 32 := Scalar.addi v738 v739
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_88 : BitVec 32 := 2#32
  let v107 : BitVec 32 := Scalar.addi v8 c2_i32_88
  let c4_i32_89 : BitVec 32 := 4#32
  let v108 : BitVec 32 := Scalar.remsi v107 c4_i32_89
  let c1_i32_738 : BitVec 32 := 1#32
  let v741 : BitVec 32 := Scalar.muli v108 c1_i32_738
  let v742 : BitVec 32 := Scalar.addi v740 v741
  v742.toNat
def k0_dev14 (d0 : Dev nD) : Nat :=
  let c0_i32_746 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_745 : BitVec 32 := 16#32
  let v749 : BitVec 32 := Scalar.muli v2 c16_i32_745
  let v750 : BitVec 32 := Scalar.addi c0_i32_746 v749
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_747 : BitVec 32 := 4#32
  let v751 : BitVec 32 := Scalar.muli v5 c4_i32_747
  let v752 : BitVec 32 := Scalar.addi v750 v751
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_90 : BitVec 32 := 3#32
  let v109 : BitVec 32 := Scalar.addi v8 c3_i32_90
  let c4_i32_91 : BitVec 32 := 4#32
  let v110 : BitVec 32 := Scalar.remsi v109 c4_i32_91
  let c1_i32_748 : BitVec 32 := 1#32
  let v753 : BitVec 32 := Scalar.muli v110 c1_i32_748
  let v754 : BitVec 32 := Scalar.addi v752 v753
  v754.toNat
def k0_dev15 (d0 : Dev nD) : Nat :=
  let c0_i32_774 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_773 : BitVec 32 := 16#32
  let v772 : BitVec 32 := Scalar.muli v2 c16_i32_773
  let v773 : BitVec 32 := Scalar.addi c0_i32_774 v772
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_59 : BitVec 32 := 0#32
  let v78 : BitVec 32 := Scalar.addi v5 c0_i32_59
  let c1_i32_60 : BitVec 32 := 1#32
  let v79 : BitVec 32 := Scalar.addi v78 c1_i32_60
  let c4_i32_61 : BitVec 32 := 4#32
  let v80 : BitVec 32 := Scalar.remsi v79 c4_i32_61
  let c4_i32_775 : BitVec 32 := 4#32
  let v774 : BitVec 32 := Scalar.muli v80 c4_i32_775
  let v775 : BitVec 32 := Scalar.addi v773 v774
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_776 : BitVec 32 := 1#32
  let v776 : BitVec 32 := Scalar.muli v8 c1_i32_776
  let v777 : BitVec 32 := Scalar.addi v775 v776
  v777.toNat
def k0_dev16 (d0 : Dev nD) : Nat :=
  let c0_i32_804 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_803 : BitVec 32 := 16#32
  let v797 : BitVec 32 := Scalar.muli v2 c16_i32_803
  let v798 : BitVec 32 := Scalar.addi c0_i32_804 v797
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_62 : BitVec 32 := 1#32
  let v81 : BitVec 32 := Scalar.addi v5 c1_i32_62
  let c1_i32_63 : BitVec 32 := 1#32
  let v82 : BitVec 32 := Scalar.addi v81 c1_i32_63
  let c4_i32_64 : BitVec 32 := 4#32
  let v83 : BitVec 32 := Scalar.remsi v82 c4_i32_64
  let c4_i32_805 : BitVec 32 := 4#32
  let v799 : BitVec 32 := Scalar.muli v83 c4_i32_805
  let v800 : BitVec 32 := Scalar.addi v798 v799
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_806 : BitVec 32 := 1#32
  let v801 : BitVec 32 := Scalar.muli v8 c1_i32_806
  let v802 : BitVec 32 := Scalar.addi v800 v801
  v802.toNat
def k0_dev17 (d0 : Dev nD) : Nat :=
  let c0_i32_834 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_833 : BitVec 32 := 16#32
  let v822 : BitVec 32 := Scalar.muli v2 c16_i32_833
  let v823 : BitVec 32 := Scalar.addi c0_i32_834 v822
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_65 : BitVec 32 := 2#32
  let v84 : BitVec 32 := Scalar.addi v5 c2_i32_65
  let c1_i32_66 : BitVec 32 := 1#32
  let v85 : BitVec 32 := Scalar.addi v84 c1_i32_66
  let c4_i32_67 : BitVec 32 := 4#32
  let v86 : BitVec 32 := Scalar.remsi v85 c4_i32_67
  let c4_i32_835 : BitVec 32 := 4#32
  let v824 : BitVec 32 := Scalar.muli v86 c4_i32_835
  let v825 : BitVec 32 := Scalar.addi v823 v824
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_836 : BitVec 32 := 1#32
  let v826 : BitVec 32 := Scalar.muli v8 c1_i32_836
  let v827 : BitVec 32 := Scalar.addi v825 v826
  v827.toNat
def k0_dev18 (d0 : Dev nD) : Nat :=
  let c0_i32_856 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.addi v2 c1_i32_2
  let c2_i32_3 : BitVec 32 := 2#32
  let v10 : BitVec 32 := Scalar.remsi v9 c2_i32_3
  let c16_i32_855 : BitVec 32 := 16#32
  let v846 : BitVec 32 := Scalar.muli v10 c16_i32_855
  let v847 : BitVec 32 := Scalar.addi c0_i32_856 v846
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_857 : BitVec 32 := 4#32
  let v848 : BitVec 32 := Scalar.muli v5 c4_i32_857
  let v849 : BitVec 32 := Scalar.addi v847 v848
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_858 : BitVec 32 := 1#32
  let v850 : BitVec 32 := Scalar.muli v8 c1_i32_858
  let v851 : BitVec 32 := Scalar.addi v849 v850
  v851.toNat
def k0_off6 (d0 : Dev nD) : Fin 2 → Nat :=
  let c2_i32_49 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v66 : BitVec 32 := Scalar.muli c2_i32_49 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v67 : BitVec 32 := Scalar.addi v66 v2
  let c512_i32 : BitVec 32 := 512#32
  let v68 : BitVec 32 := Scalar.muli v67 c512_i32
  let v929 : Index := Scalar.indexCast v68
  let c256 : Index := 256#32
  ![v929.toNat, 256]
def k0_off7 (d0 : Dev nD) (c0_i32_235 : BitVec 32) : Fin 2 → Nat :=
  let c2_i32_237 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_234 : BitVec 32 := 4#32
  let v273 : BitVec 32 := Scalar.addi v8 c4_i32_234
  let v274 : BitVec 32 := Scalar.subi v273 c0_i32_235
  let c4_i32_236 : BitVec 32 := 4#32
  let v275 : BitVec 32 := Scalar.remsi v274 c4_i32_236
  let v276 : BitVec 32 := Scalar.muli c2_i32_237 v275
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v277 : BitVec 32 := Scalar.addi v276 v2
  let c512_i32_238 : BitVec 32 := 512#32
  let v278 : BitVec 32 := Scalar.muli v277 c512_i32_238
  let c256_i32_978 : BitVec 32 := 256#32
  ![v278.toNat, 256]
def k0_dev19 (d0 : Dev nD) : Nat :=
  let c0_i32_975 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.addi v2 c1_i32_2
  let c2_i32_3 : BitVec 32 := 2#32
  let v10 : BitVec 32 := Scalar.remsi v9 c2_i32_3
  let c16_i32_974 : BitVec 32 := 16#32
  let v931 : BitVec 32 := Scalar.muli v10 c16_i32_974
  let v932 : BitVec 32 := Scalar.addi c0_i32_975 v931
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_976 : BitVec 32 := 4#32
  let v933 : BitVec 32 := Scalar.muli v5 c4_i32_976
  let v934 : BitVec 32 := Scalar.addi v932 v933
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_977 : BitVec 32 := 1#32
  let v935 : BitVec 32 := Scalar.muli v8 c1_i32_977
  let v936 : BitVec 32 := Scalar.addi v934 v935
  v936.toNat
def k0_off8 (d0 : Dev nD) : Fin 2 → Nat :=
  let c2_i32_49 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v66 : BitVec 32 := Scalar.muli c2_i32_49 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v67 : BitVec 32 := Scalar.addi v66 v2
  let c512_i32 : BitVec 32 := 512#32
  let v68 : BitVec 32 := Scalar.muli v67 c512_i32
  let c256_i32_988 : BitVec 32 := 256#32
  ![v68.toNat, 256]
def k0_dev20 (d0 : Dev nD) : Nat :=
  let c0_i32_985 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_984 : BitVec 32 := 16#32
  let v943 : BitVec 32 := Scalar.muli v2 c16_i32_984
  let v944 : BitVec 32 := Scalar.addi c0_i32_985 v943
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_986 : BitVec 32 := 4#32
  let v945 : BitVec 32 := Scalar.muli v5 c4_i32_986
  let v946 : BitVec 32 := Scalar.addi v944 v945
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v111 : BitVec 32 := Scalar.addi v8 c1_i32_92
  let c4_i32_93 : BitVec 32 := 4#32
  let v112 : BitVec 32 := Scalar.remsi v111 c4_i32_93
  let c1_i32_987 : BitVec 32 := 1#32
  let v947 : BitVec 32 := Scalar.muli v112 c1_i32_987
  let v948 : BitVec 32 := Scalar.addi v946 v947
  v948.toNat
def k0_dev21 (d0 : Dev nD) : Nat :=
  let c0_i32_995 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_994 : BitVec 32 := 16#32
  let v955 : BitVec 32 := Scalar.muli v2 c16_i32_994
  let v956 : BitVec 32 := Scalar.addi c0_i32_995 v955
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_996 : BitVec 32 := 4#32
  let v957 : BitVec 32 := Scalar.muli v5 c4_i32_996
  let v958 : BitVec 32 := Scalar.addi v956 v957
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_94 : BitVec 32 := 2#32
  let v113 : BitVec 32 := Scalar.addi v8 c2_i32_94
  let c4_i32_95 : BitVec 32 := 4#32
  let v114 : BitVec 32 := Scalar.remsi v113 c4_i32_95
  let c1_i32_997 : BitVec 32 := 1#32
  let v959 : BitVec 32 := Scalar.muli v114 c1_i32_997
  let v960 : BitVec 32 := Scalar.addi v958 v959
  v960.toNat
def k0_dev22 (d0 : Dev nD) : Nat :=
  let c0_i32_1005 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1004 : BitVec 32 := 16#32
  let v967 : BitVec 32 := Scalar.muli v2 c16_i32_1004
  let v968 : BitVec 32 := Scalar.addi c0_i32_1005 v967
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1006 : BitVec 32 := 4#32
  let v969 : BitVec 32 := Scalar.muli v5 c4_i32_1006
  let v970 : BitVec 32 := Scalar.addi v968 v969
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_96 : BitVec 32 := 3#32
  let v115 : BitVec 32 := Scalar.addi v8 c3_i32_96
  let c4_i32_97 : BitVec 32 := 4#32
  let v116 : BitVec 32 := Scalar.remsi v115 c4_i32_97
  let c1_i32_1007 : BitVec 32 := 1#32
  let v971 : BitVec 32 := Scalar.muli v116 c1_i32_1007
  let v972 : BitVec 32 := Scalar.addi v970 v971
  v972.toNat
def k0_dev23 (d0 : Dev nD) : Nat :=
  let c0_i32_1033 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1032 : BitVec 32 := 16#32
  let v990 : BitVec 32 := Scalar.muli v2 c16_i32_1032
  let v991 : BitVec 32 := Scalar.addi c0_i32_1033 v990
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_68 : BitVec 32 := 0#32
  let v87 : BitVec 32 := Scalar.addi v5 c0_i32_68
  let c1_i32_69 : BitVec 32 := 1#32
  let v88 : BitVec 32 := Scalar.addi v87 c1_i32_69
  let c4_i32_70 : BitVec 32 := 4#32
  let v89 : BitVec 32 := Scalar.remsi v88 c4_i32_70
  let c4_i32_1034 : BitVec 32 := 4#32
  let v992 : BitVec 32 := Scalar.muli v89 c4_i32_1034
  let v993 : BitVec 32 := Scalar.addi v991 v992
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1035 : BitVec 32 := 1#32
  let v994 : BitVec 32 := Scalar.muli v8 c1_i32_1035
  let v995 : BitVec 32 := Scalar.addi v993 v994
  v995.toNat
def k0_dev24 (d0 : Dev nD) : Nat :=
  let c0_i32_1063 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1062 : BitVec 32 := 16#32
  let v1015 : BitVec 32 := Scalar.muli v2 c16_i32_1062
  let v1016 : BitVec 32 := Scalar.addi c0_i32_1063 v1015
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_71 : BitVec 32 := 1#32
  let v90 : BitVec 32 := Scalar.addi v5 c1_i32_71
  let c1_i32_72 : BitVec 32 := 1#32
  let v91 : BitVec 32 := Scalar.addi v90 c1_i32_72
  let c4_i32_73 : BitVec 32 := 4#32
  let v92 : BitVec 32 := Scalar.remsi v91 c4_i32_73
  let c4_i32_1064 : BitVec 32 := 4#32
  let v1017 : BitVec 32 := Scalar.muli v92 c4_i32_1064
  let v1018 : BitVec 32 := Scalar.addi v1016 v1017
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1065 : BitVec 32 := 1#32
  let v1019 : BitVec 32 := Scalar.muli v8 c1_i32_1065
  let v1020 : BitVec 32 := Scalar.addi v1018 v1019
  v1020.toNat
def k0_dev25 (d0 : Dev nD) : Nat :=
  let c0_i32_1093 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1092 : BitVec 32 := 16#32
  let v1040 : BitVec 32 := Scalar.muli v2 c16_i32_1092
  let v1041 : BitVec 32 := Scalar.addi c0_i32_1093 v1040
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_74 : BitVec 32 := 2#32
  let v93 : BitVec 32 := Scalar.addi v5 c2_i32_74
  let c1_i32_75 : BitVec 32 := 1#32
  let v94 : BitVec 32 := Scalar.addi v93 c1_i32_75
  let c4_i32_76 : BitVec 32 := 4#32
  let v95 : BitVec 32 := Scalar.remsi v94 c4_i32_76
  let c4_i32_1094 : BitVec 32 := 4#32
  let v1042 : BitVec 32 := Scalar.muli v95 c4_i32_1094
  let v1043 : BitVec 32 := Scalar.addi v1041 v1042
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1095 : BitVec 32 := 1#32
  let v1044 : BitVec 32 := Scalar.muli v8 c1_i32_1095
  let v1045 : BitVec 32 := Scalar.addi v1043 v1044
  v1045.toNat
def k0_dev26 (d0 : Dev nD) : Nat :=
  let c0_i32_1115 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.addi v2 c1_i32_2
  let c2_i32_3 : BitVec 32 := 2#32
  let v10 : BitVec 32 := Scalar.remsi v9 c2_i32_3
  let c16_i32_1114 : BitVec 32 := 16#32
  let v1064 : BitVec 32 := Scalar.muli v10 c16_i32_1114
  let v1065 : BitVec 32 := Scalar.addi c0_i32_1115 v1064
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1116 : BitVec 32 := 4#32
  let v1066 : BitVec 32 := Scalar.muli v5 c4_i32_1116
  let v1067 : BitVec 32 := Scalar.addi v1065 v1066
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1117 : BitVec 32 := 1#32
  let v1068 : BitVec 32 := Scalar.muli v8 c1_i32_1117
  let v1069 : BitVec 32 := Scalar.addi v1067 v1068
  v1069.toNat
def k0_dev27 (d0 : Dev nD) : Nat :=
  let c0_i32_1135 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.addi v2 c1_i32_2
  let c2_i32_3 : BitVec 32 := 2#32
  let v10 : BitVec 32 := Scalar.remsi v9 c2_i32_3
  let c16_i32_1134 : BitVec 32 := 16#32
  let v1086 : BitVec 32 := Scalar.muli v10 c16_i32_1134
  let v1087 : BitVec 32 := Scalar.addi c0_i32_1135 v1086
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1136 : BitVec 32 := 4#32
  let v1088 : BitVec 32 := Scalar.muli v5 c4_i32_1136
  let v1089 : BitVec 32 := Scalar.addi v1087 v1088
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1137 : BitVec 32 := 1#32
  let v1090 : BitVec 32 := Scalar.muli v8 c1_i32_1137
  let v1091 : BitVec 32 := Scalar.addi v1089 v1090
  v1091.toNat
def k0_off9 (d0 : Dev nD) : Fin 2 → Nat :=
  let c2_i32_49 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v66 : BitVec 32 := Scalar.muli c2_i32_49 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v67 : BitVec 32 := Scalar.addi v66 v2
  let c512_i32 : BitVec 32 := 512#32
  let v68 : BitVec 32 := Scalar.muli v67 c512_i32
  let v1169 : Index := Scalar.indexCast v68
  let c512 : Index := 512#32
  ![v1169.toNat, 512]
def k0_off10 (d0 : Dev nD) (c0_i32_275 : BitVec 32) : Fin 2 → Nat :=
  let c2_i32_277 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_274 : BitVec 32 := 4#32
  let v321 : BitVec 32 := Scalar.addi v8 c4_i32_274
  let v322 : BitVec 32 := Scalar.subi v321 c0_i32_275
  let c4_i32_276 : BitVec 32 := 4#32
  let v323 : BitVec 32 := Scalar.remsi v322 c4_i32_276
  let v324 : BitVec 32 := Scalar.muli c2_i32_277 v323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v325 : BitVec 32 := Scalar.addi v324 v2
  let c512_i32_278 : BitVec 32 := 512#32
  let v326 : BitVec 32 := Scalar.muli v325 c512_i32_278
  let c512_i32_1257 : BitVec 32 := 512#32
  ![v326.toNat, 512]
def k0_dev28 (d0 : Dev nD) : Nat :=
  let c0_i32_1254 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.addi v2 c1_i32_2
  let c2_i32_3 : BitVec 32 := 2#32
  let v10 : BitVec 32 := Scalar.remsi v9 c2_i32_3
  let c16_i32_1253 : BitVec 32 := 16#32
  let v1171 : BitVec 32 := Scalar.muli v10 c16_i32_1253
  let v1172 : BitVec 32 := Scalar.addi c0_i32_1254 v1171
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1255 : BitVec 32 := 4#32
  let v1173 : BitVec 32 := Scalar.muli v5 c4_i32_1255
  let v1174 : BitVec 32 := Scalar.addi v1172 v1173
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1256 : BitVec 32 := 1#32
  let v1175 : BitVec 32 := Scalar.muli v8 c1_i32_1256
  let v1176 : BitVec 32 := Scalar.addi v1174 v1175
  v1176.toNat
def k0_off11 (d0 : Dev nD) : Fin 2 → Nat :=
  let c2_i32_49 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v66 : BitVec 32 := Scalar.muli c2_i32_49 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v67 : BitVec 32 := Scalar.addi v66 v2
  let c512_i32 : BitVec 32 := 512#32
  let v68 : BitVec 32 := Scalar.muli v67 c512_i32
  let c512_i32_1267 : BitVec 32 := 512#32
  ![v68.toNat, 512]
def k0_dev29 (d0 : Dev nD) : Nat :=
  let c0_i32_1264 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1263 : BitVec 32 := 16#32
  let v1183 : BitVec 32 := Scalar.muli v2 c16_i32_1263
  let v1184 : BitVec 32 := Scalar.addi c0_i32_1264 v1183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1265 : BitVec 32 := 4#32
  let v1185 : BitVec 32 := Scalar.muli v5 c4_i32_1265
  let v1186 : BitVec 32 := Scalar.addi v1184 v1185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_98 : BitVec 32 := 1#32
  let v117 : BitVec 32 := Scalar.addi v8 c1_i32_98
  let c4_i32_99 : BitVec 32 := 4#32
  let v118 : BitVec 32 := Scalar.remsi v117 c4_i32_99
  let c1_i32_1266 : BitVec 32 := 1#32
  let v1187 : BitVec 32 := Scalar.muli v118 c1_i32_1266
  let v1188 : BitVec 32 := Scalar.addi v1186 v1187
  v1188.toNat
def k0_dev30 (d0 : Dev nD) : Nat :=
  let c0_i32_1274 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1273 : BitVec 32 := 16#32
  let v1195 : BitVec 32 := Scalar.muli v2 c16_i32_1273
  let v1196 : BitVec 32 := Scalar.addi c0_i32_1274 v1195
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1275 : BitVec 32 := 4#32
  let v1197 : BitVec 32 := Scalar.muli v5 c4_i32_1275
  let v1198 : BitVec 32 := Scalar.addi v1196 v1197
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_100 : BitVec 32 := 2#32
  let v119 : BitVec 32 := Scalar.addi v8 c2_i32_100
  let c4_i32_101 : BitVec 32 := 4#32
  let v120 : BitVec 32 := Scalar.remsi v119 c4_i32_101
  let c1_i32_1276 : BitVec 32 := 1#32
  let v1199 : BitVec 32 := Scalar.muli v120 c1_i32_1276
  let v1200 : BitVec 32 := Scalar.addi v1198 v1199
  v1200.toNat
def k0_dev31 (d0 : Dev nD) : Nat :=
  let c0_i32_1284 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1283 : BitVec 32 := 16#32
  let v1207 : BitVec 32 := Scalar.muli v2 c16_i32_1283
  let v1208 : BitVec 32 := Scalar.addi c0_i32_1284 v1207
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1285 : BitVec 32 := 4#32
  let v1209 : BitVec 32 := Scalar.muli v5 c4_i32_1285
  let v1210 : BitVec 32 := Scalar.addi v1208 v1209
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_102 : BitVec 32 := 3#32
  let v121 : BitVec 32 := Scalar.addi v8 c3_i32_102
  let c4_i32_103 : BitVec 32 := 4#32
  let v122 : BitVec 32 := Scalar.remsi v121 c4_i32_103
  let c1_i32_1286 : BitVec 32 := 1#32
  let v1211 : BitVec 32 := Scalar.muli v122 c1_i32_1286
  let v1212 : BitVec 32 := Scalar.addi v1210 v1211
  v1212.toNat
def k0_dev32 (d0 : Dev nD) : Nat :=
  let c0_i32_1312 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1311 : BitVec 32 := 16#32
  let v1230 : BitVec 32 := Scalar.muli v2 c16_i32_1311
  let v1231 : BitVec 32 := Scalar.addi c0_i32_1312 v1230
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_77 : BitVec 32 := 0#32
  let v96 : BitVec 32 := Scalar.addi v5 c0_i32_77
  let c1_i32_78 : BitVec 32 := 1#32
  let v97 : BitVec 32 := Scalar.addi v96 c1_i32_78
  let c4_i32_79 : BitVec 32 := 4#32
  let v98 : BitVec 32 := Scalar.remsi v97 c4_i32_79
  let c4_i32_1313 : BitVec 32 := 4#32
  let v1232 : BitVec 32 := Scalar.muli v98 c4_i32_1313
  let v1233 : BitVec 32 := Scalar.addi v1231 v1232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1314 : BitVec 32 := 1#32
  let v1234 : BitVec 32 := Scalar.muli v8 c1_i32_1314
  let v1235 : BitVec 32 := Scalar.addi v1233 v1234
  v1235.toNat
def k0_dev33 (d0 : Dev nD) : Nat :=
  let c0_i32_1342 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1341 : BitVec 32 := 16#32
  let v1255 : BitVec 32 := Scalar.muli v2 c16_i32_1341
  let v1256 : BitVec 32 := Scalar.addi c0_i32_1342 v1255
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_80 : BitVec 32 := 1#32
  let v99 : BitVec 32 := Scalar.addi v5 c1_i32_80
  let c1_i32_81 : BitVec 32 := 1#32
  let v100 : BitVec 32 := Scalar.addi v99 c1_i32_81
  let c4_i32_82 : BitVec 32 := 4#32
  let v101 : BitVec 32 := Scalar.remsi v100 c4_i32_82
  let c4_i32_1343 : BitVec 32 := 4#32
  let v1257 : BitVec 32 := Scalar.muli v101 c4_i32_1343
  let v1258 : BitVec 32 := Scalar.addi v1256 v1257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1344 : BitVec 32 := 1#32
  let v1259 : BitVec 32 := Scalar.muli v8 c1_i32_1344
  let v1260 : BitVec 32 := Scalar.addi v1258 v1259
  v1260.toNat
def k0_dev34 (d0 : Dev nD) : Nat :=
  let c0_i32_1372 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1371 : BitVec 32 := 16#32
  let v1280 : BitVec 32 := Scalar.muli v2 c16_i32_1371
  let v1281 : BitVec 32 := Scalar.addi c0_i32_1372 v1280
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_83 : BitVec 32 := 2#32
  let v102 : BitVec 32 := Scalar.addi v5 c2_i32_83
  let c1_i32_84 : BitVec 32 := 1#32
  let v103 : BitVec 32 := Scalar.addi v102 c1_i32_84
  let c4_i32_85 : BitVec 32 := 4#32
  let v104 : BitVec 32 := Scalar.remsi v103 c4_i32_85
  let c4_i32_1373 : BitVec 32 := 4#32
  let v1282 : BitVec 32 := Scalar.muli v104 c4_i32_1373
  let v1283 : BitVec 32 := Scalar.addi v1281 v1282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1374 : BitVec 32 := 1#32
  let v1284 : BitVec 32 := Scalar.muli v8 c1_i32_1374
  let v1285 : BitVec 32 := Scalar.addi v1283 v1284
  v1285.toNat
def k0_dev35 (d0 : Dev nD) : Nat :=
  let c0_i32_1394 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.addi v2 c1_i32_2
  let c2_i32_3 : BitVec 32 := 2#32
  let v10 : BitVec 32 := Scalar.remsi v9 c2_i32_3
  let c16_i32_1393 : BitVec 32 := 16#32
  let v1304 : BitVec 32 := Scalar.muli v10 c16_i32_1393
  let v1305 : BitVec 32 := Scalar.addi c0_i32_1394 v1304
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1395 : BitVec 32 := 4#32
  let v1306 : BitVec 32 := Scalar.muli v5 c4_i32_1395
  let v1307 : BitVec 32 := Scalar.addi v1305 v1306
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1396 : BitVec 32 := 1#32
  let v1308 : BitVec 32 := Scalar.muli v8 c1_i32_1396
  let v1309 : BitVec 32 := Scalar.addi v1307 v1308
  v1309.toNat
def k0_dev36 (d0 : Dev nD) : Nat :=
  let c0_i32_1414 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.addi v2 c1_i32_2
  let c2_i32_3 : BitVec 32 := 2#32
  let v10 : BitVec 32 := Scalar.remsi v9 c2_i32_3
  let c16_i32_1413 : BitVec 32 := 16#32
  let v1326 : BitVec 32 := Scalar.muli v10 c16_i32_1413
  let v1327 : BitVec 32 := Scalar.addi c0_i32_1414 v1326
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1415 : BitVec 32 := 4#32
  let v1328 : BitVec 32 := Scalar.muli v5 c4_i32_1415
  let v1329 : BitVec 32 := Scalar.addi v1327 v1328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1416 : BitVec 32 := 1#32
  let v1330 : BitVec 32 := Scalar.muli v8 c1_i32_1416
  let v1331 : BitVec 32 := Scalar.addi v1329 v1330
  v1331.toNat
def k0_dev37 (d0 : Dev nD) : Nat :=
  let c0_i32_1434 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.addi v2 c1_i32_2
  let c2_i32_3 : BitVec 32 := 2#32
  let v10 : BitVec 32 := Scalar.remsi v9 c2_i32_3
  let c16_i32_1433 : BitVec 32 := 16#32
  let v1348 : BitVec 32 := Scalar.muli v10 c16_i32_1433
  let v1349 : BitVec 32 := Scalar.addi c0_i32_1434 v1348
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1435 : BitVec 32 := 4#32
  let v1350 : BitVec 32 := Scalar.muli v5 c4_i32_1435
  let v1351 : BitVec 32 := Scalar.addi v1349 v1350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1436 : BitVec 32 := 1#32
  let v1352 : BitVec 32 := Scalar.muli v8 c1_i32_1436
  let v1353 : BitVec 32 := Scalar.addi v1351 v1352
  v1353.toNat
def k0_off12 (d0 : Dev nD) : Fin 2 → Nat :=
  let c2_i32_49 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v66 : BitVec 32 := Scalar.muli c2_i32_49 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v67 : BitVec 32 := Scalar.addi v66 v2
  let c512_i32 : BitVec 32 := 512#32
  let v68 : BitVec 32 := Scalar.muli v67 c512_i32
  let v1431 : Index := Scalar.indexCast v68
  let c768 : Index := 768#32
  ![v1431.toNat, 768]
def k0_off13 (d0 : Dev nD) (c0_i32_315 : BitVec 32) : Fin 2 → Nat :=
  let c2_i32_317 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_314 : BitVec 32 := 4#32
  let v369 : BitVec 32 := Scalar.addi v8 c4_i32_314
  let v370 : BitVec 32 := Scalar.subi v369 c0_i32_315
  let c4_i32_316 : BitVec 32 := 4#32
  let v371 : BitVec 32 := Scalar.remsi v370 c4_i32_316
  let v372 : BitVec 32 := Scalar.muli c2_i32_317 v371
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v373 : BitVec 32 := Scalar.addi v372 v2
  let c512_i32_318 : BitVec 32 := 512#32
  let v374 : BitVec 32 := Scalar.muli v373 c512_i32_318
  let c768_i32_1556 : BitVec 32 := 768#32
  ![v374.toNat, 768]
def k0_dev38 (d0 : Dev nD) : Nat :=
  let c0_i32_1553 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.addi v2 c1_i32_2
  let c2_i32_3 : BitVec 32 := 2#32
  let v10 : BitVec 32 := Scalar.remsi v9 c2_i32_3
  let c16_i32_1552 : BitVec 32 := 16#32
  let v1433 : BitVec 32 := Scalar.muli v10 c16_i32_1552
  let v1434 : BitVec 32 := Scalar.addi c0_i32_1553 v1433
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1554 : BitVec 32 := 4#32
  let v1435 : BitVec 32 := Scalar.muli v5 c4_i32_1554
  let v1436 : BitVec 32 := Scalar.addi v1434 v1435
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1555 : BitVec 32 := 1#32
  let v1437 : BitVec 32 := Scalar.muli v8 c1_i32_1555
  let v1438 : BitVec 32 := Scalar.addi v1436 v1437
  v1438.toNat
def k0_off14 (d0 : Dev nD) : Fin 2 → Nat :=
  let c2_i32_49 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v66 : BitVec 32 := Scalar.muli c2_i32_49 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v67 : BitVec 32 := Scalar.addi v66 v2
  let c512_i32 : BitVec 32 := 512#32
  let v68 : BitVec 32 := Scalar.muli v67 c512_i32
  let c768_i32_1566 : BitVec 32 := 768#32
  ![v68.toNat, 768]
def k0_dev39 (d0 : Dev nD) : Nat :=
  let c0_i32_1563 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1562 : BitVec 32 := 16#32
  let v1445 : BitVec 32 := Scalar.muli v2 c16_i32_1562
  let v1446 : BitVec 32 := Scalar.addi c0_i32_1563 v1445
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1564 : BitVec 32 := 4#32
  let v1447 : BitVec 32 := Scalar.muli v5 c4_i32_1564
  let v1448 : BitVec 32 := Scalar.addi v1446 v1447
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v123 : BitVec 32 := Scalar.addi v8 c1_i32_104
  let c4_i32_105 : BitVec 32 := 4#32
  let v124 : BitVec 32 := Scalar.remsi v123 c4_i32_105
  let c1_i32_1565 : BitVec 32 := 1#32
  let v1449 : BitVec 32 := Scalar.muli v124 c1_i32_1565
  let v1450 : BitVec 32 := Scalar.addi v1448 v1449
  v1450.toNat
def k0_dev40 (d0 : Dev nD) : Nat :=
  let c0_i32_1573 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1572 : BitVec 32 := 16#32
  let v1457 : BitVec 32 := Scalar.muli v2 c16_i32_1572
  let v1458 : BitVec 32 := Scalar.addi c0_i32_1573 v1457
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1574 : BitVec 32 := 4#32
  let v1459 : BitVec 32 := Scalar.muli v5 c4_i32_1574
  let v1460 : BitVec 32 := Scalar.addi v1458 v1459
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_106 : BitVec 32 := 2#32
  let v125 : BitVec 32 := Scalar.addi v8 c2_i32_106
  let c4_i32_107 : BitVec 32 := 4#32
  let v126 : BitVec 32 := Scalar.remsi v125 c4_i32_107
  let c1_i32_1575 : BitVec 32 := 1#32
  let v1461 : BitVec 32 := Scalar.muli v126 c1_i32_1575
  let v1462 : BitVec 32 := Scalar.addi v1460 v1461
  v1462.toNat
def k0_dev41 (d0 : Dev nD) : Nat :=
  let c0_i32_1583 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1582 : BitVec 32 := 16#32
  let v1469 : BitVec 32 := Scalar.muli v2 c16_i32_1582
  let v1470 : BitVec 32 := Scalar.addi c0_i32_1583 v1469
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1584 : BitVec 32 := 4#32
  let v1471 : BitVec 32 := Scalar.muli v5 c4_i32_1584
  let v1472 : BitVec 32 := Scalar.addi v1470 v1471
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_108 : BitVec 32 := 3#32
  let v127 : BitVec 32 := Scalar.addi v8 c3_i32_108
  let c4_i32_109 : BitVec 32 := 4#32
  let v128 : BitVec 32 := Scalar.remsi v127 c4_i32_109
  let c1_i32_1585 : BitVec 32 := 1#32
  let v1473 : BitVec 32 := Scalar.muli v128 c1_i32_1585
  let v1474 : BitVec 32 := Scalar.addi v1472 v1473
  v1474.toNat
def k0_dev42 (d0 : Dev nD) : Nat :=
  let c0_i32_1603 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.addi v2 c1_i32_2
  let c2_i32_3 : BitVec 32 := 2#32
  let v10 : BitVec 32 := Scalar.remsi v9 c2_i32_3
  let c16_i32_1602 : BitVec 32 := 16#32
  let v1491 : BitVec 32 := Scalar.muli v10 c16_i32_1602
  let v1492 : BitVec 32 := Scalar.addi c0_i32_1603 v1491
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1604 : BitVec 32 := 4#32
  let v1493 : BitVec 32 := Scalar.muli v5 c4_i32_1604
  let v1494 : BitVec 32 := Scalar.addi v1492 v1493
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1605 : BitVec 32 := 1#32
  let v1495 : BitVec 32 := Scalar.muli v8 c1_i32_1605
  let v1496 : BitVec 32 := Scalar.addi v1494 v1495
  v1496.toNat
def k0_dev43 (d0 : Dev nD) : Nat :=
  let c0_i32_1623 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.addi v2 c1_i32_2
  let c2_i32_3 : BitVec 32 := 2#32
  let v10 : BitVec 32 := Scalar.remsi v9 c2_i32_3
  let c16_i32_1622 : BitVec 32 := 16#32
  let v1513 : BitVec 32 := Scalar.muli v10 c16_i32_1622
  let v1514 : BitVec 32 := Scalar.addi c0_i32_1623 v1513
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1624 : BitVec 32 := 4#32
  let v1515 : BitVec 32 := Scalar.muli v5 c4_i32_1624
  let v1516 : BitVec 32 := Scalar.addi v1514 v1515
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1625 : BitVec 32 := 1#32
  let v1517 : BitVec 32 := Scalar.muli v8 c1_i32_1625
  let v1518 : BitVec 32 := Scalar.addi v1516 v1517
  v1518.toNat
def k0_dev44 (d0 : Dev nD) : Nat :=
  let c0_i32_1643 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.addi v2 c1_i32_2
  let c2_i32_3 : BitVec 32 := 2#32
  let v10 : BitVec 32 := Scalar.remsi v9 c2_i32_3
  let c16_i32_1642 : BitVec 32 := 16#32
  let v1535 : BitVec 32 := Scalar.muli v10 c16_i32_1642
  let v1536 : BitVec 32 := Scalar.addi c0_i32_1643 v1535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1644 : BitVec 32 := 4#32
  let v1537 : BitVec 32 := Scalar.muli v5 c4_i32_1644
  let v1538 : BitVec 32 := Scalar.addi v1536 v1537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1645 : BitVec 32 := 1#32
  let v1539 : BitVec 32 := Scalar.muli v8 c1_i32_1645
  let v1540 : BitVec 32 := Scalar.addi v1538 v1539
  v1540.toNat
def k0_dev45 (d0 : Dev nD) : Nat :=
  let c0_i32_1663 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.addi v2 c1_i32_2
  let c2_i32_3 : BitVec 32 := 2#32
  let v10 : BitVec 32 := Scalar.remsi v9 c2_i32_3
  let c16_i32_1662 : BitVec 32 := 16#32
  let v1557 : BitVec 32 := Scalar.muli v10 c16_i32_1662
  let v1558 : BitVec 32 := Scalar.addi c0_i32_1663 v1557
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1664 : BitVec 32 := 4#32
  let v1559 : BitVec 32 := Scalar.muli v5 c4_i32_1664
  let v1560 : BitVec 32 := Scalar.addi v1558 v1559
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1665 : BitVec 32 := 1#32
  let v1561 : BitVec 32 := Scalar.muli v8 c1_i32_1665
  let v1562 : BitVec 32 := Scalar.addi v1560 v1561
  v1562.toNat
def k0_dev46 (d0 : Dev nD) : Nat :=
  let c0_i32_1683 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.addi v2 c1_i32_2
  let c2_i32_3 : BitVec 32 := 2#32
  let v10 : BitVec 32 := Scalar.remsi v9 c2_i32_3
  let c16_i32_1682 : BitVec 32 := 16#32
  let v1579 : BitVec 32 := Scalar.muli v10 c16_i32_1682
  let v1580 : BitVec 32 := Scalar.addi c0_i32_1683 v1579
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1684 : BitVec 32 := 4#32
  let v1581 : BitVec 32 := Scalar.muli v5 c4_i32_1684
  let v1582 : BitVec 32 := Scalar.addi v1580 v1581
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1685 : BitVec 32 := 1#32
  let v1583 : BitVec 32 := Scalar.muli v8 c1_i32_1685
  let v1584 : BitVec 32 := Scalar.addi v1582 v1583
  v1584.toNat
def k0_dev47 (d0 : Dev nD) : Nat :=
  let c0_i32_1703 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.addi v2 c1_i32_2
  let c2_i32_3 : BitVec 32 := 2#32
  let v10 : BitVec 32 := Scalar.remsi v9 c2_i32_3
  let c16_i32_1702 : BitVec 32 := 16#32
  let v1601 : BitVec 32 := Scalar.muli v10 c16_i32_1702
  let v1602 : BitVec 32 := Scalar.addi c0_i32_1703 v1601
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1704 : BitVec 32 := 4#32
  let v1603 : BitVec 32 := Scalar.muli v5 c4_i32_1704
  let v1604 : BitVec 32 := Scalar.addi v1602 v1603
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1705 : BitVec 32 := 1#32
  let v1605 : BitVec 32 := Scalar.muli v8 c1_i32_1705
  let v1606 : BitVec 32 := Scalar.addi v1604 v1605
  v1606.toNat
def k0_off15 (d0 : Dev nD) (c0_i32_200 : BitVec 32) : Fin 2 → Nat :=
  let c2_i32_202 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_199 : BitVec 32 := 4#32
  let v231 : BitVec 32 := Scalar.addi v8 c4_i32_199
  let v232 : BitVec 32 := Scalar.subi v231 c0_i32_200
  let c4_i32_201 : BitVec 32 := 4#32
  let v233 : BitVec 32 := Scalar.remsi v232 c4_i32_201
  let v234 : BitVec 32 := Scalar.muli c2_i32_202 v233
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.addi v2 c1_i32_2
  let c2_i32_3 : BitVec 32 := 2#32
  let v10 : BitVec 32 := Scalar.remsi v9 c2_i32_3
  let v235 : BitVec 32 := Scalar.addi v234 v10
  let c512_i32_203 : BitVec 32 := 512#32
  let v236 : BitVec 32 := Scalar.muli v235 c512_i32_203
  let c0_i32_1744 : BitVec 32 := 0#32
  ![v236.toNat, 0]
def k0_off16 (d0 : Dev nD) (c0_i32_240 : BitVec 32) : Fin 2 → Nat :=
  let c2_i32_242 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_239 : BitVec 32 := 4#32
  let v279 : BitVec 32 := Scalar.addi v8 c4_i32_239
  let v280 : BitVec 32 := Scalar.subi v279 c0_i32_240
  let c4_i32_241 : BitVec 32 := 4#32
  let v281 : BitVec 32 := Scalar.remsi v280 c4_i32_241
  let v282 : BitVec 32 := Scalar.muli c2_i32_242 v281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.addi v2 c1_i32_2
  let c2_i32_3 : BitVec 32 := 2#32
  let v10 : BitVec 32 := Scalar.remsi v9 c2_i32_3
  let v283 : BitVec 32 := Scalar.addi v282 v10
  let c512_i32_243 : BitVec 32 := 512#32
  let v284 : BitVec 32 := Scalar.muli v283 c512_i32_243
  let c256_i32_1833 : BitVec 32 := 256#32
  ![v284.toNat, 256]
def k0_off17 (d0 : Dev nD) (c0_i32_280 : BitVec 32) : Fin 2 → Nat :=
  let c2_i32_282 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_279 : BitVec 32 := 4#32
  let v327 : BitVec 32 := Scalar.addi v8 c4_i32_279
  let v328 : BitVec 32 := Scalar.subi v327 c0_i32_280
  let c4_i32_281 : BitVec 32 := 4#32
  let v329 : BitVec 32 := Scalar.remsi v328 c4_i32_281
  let v330 : BitVec 32 := Scalar.muli c2_i32_282 v329
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.addi v2 c1_i32_2
  let c2_i32_3 : BitVec 32 := 2#32
  let v10 : BitVec 32 := Scalar.remsi v9 c2_i32_3
  let v331 : BitVec 32 := Scalar.addi v330 v10
  let c512_i32_283 : BitVec 32 := 512#32
  let v332 : BitVec 32 := Scalar.muli v331 c512_i32_283
  let c512_i32_1922 : BitVec 32 := 512#32
  ![v332.toNat, 512]
def k0_off18 (d0 : Dev nD) (c0_i32_320 : BitVec 32) : Fin 2 → Nat :=
  let c2_i32_322 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_319 : BitVec 32 := 4#32
  let v375 : BitVec 32 := Scalar.addi v8 c4_i32_319
  let v376 : BitVec 32 := Scalar.subi v375 c0_i32_320
  let c4_i32_321 : BitVec 32 := 4#32
  let v377 : BitVec 32 := Scalar.remsi v376 c4_i32_321
  let v378 : BitVec 32 := Scalar.muli c2_i32_322 v377
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.addi v2 c1_i32_2
  let c2_i32_3 : BitVec 32 := 2#32
  let v10 : BitVec 32 := Scalar.remsi v9 c2_i32_3
  let v379 : BitVec 32 := Scalar.addi v378 v10
  let c512_i32_323 : BitVec 32 := 512#32
  let v380 : BitVec 32 := Scalar.muli v379 c512_i32_323
  let c768_i32_2011 : BitVec 32 := 768#32
  ![v380.toNat, 768]
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x4096x4096 : Shape := ⟨3, ![4, 4096, 4096]⟩
abbrev S_ : Shape := ⟨0, ![]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S_, .f32⟩
  | .hbm, ⟨2, _⟩ => ⟨S4096x4096, .f32⟩
  | .hbm, ⟨3, _⟩ => ⟨S4096x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Geom.lean ====
/-
# `Geom`: devices, semaphore cells, buffer pieces and contents of the reduce-scatter

The 32 devices form a 2 × 4 × 4 mesh; device `c` has coordinates `x = c / 16`, `y = (c / 4) % 4`,
`z = c % 4`. A device adds, for its own half of a quarter of the rows, the four copies along `y`
(its own and the three sent to it), and then passes the sums on along `z` and across `x`, so that
every device ends with all rows of its column block.

A `Site` is one of the 40 remote copies a device issues; a `Cell` is one of its 97 semaphores.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.SparseCore.Stream
public import Idealize.ShloMosaic.Lib.Tactic

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the protocol's (duties named by `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The mesh -/

set_option backward.proofsInPublic true in
/-- The device `j + 1` places on along `y`. -/
def yTo (j : Fin 3) (c : Dev nD) : Dev nD :=
  ⟨16 * (c.val / 16) + 4 * ((c.val / 4 % 4 + (j.val + 1)) % 4) + c.val % 4, by have := c.isLt; show _ < 32; change c.val < 32 at this; omega⟩
set_option backward.proofsInPublic true in
/-- The device `j + 1` places back along `y`. -/
def yFr (j : Fin 3) (c : Dev nD) : Dev nD :=
  ⟨16 * (c.val / 16) + 4 * ((c.val / 4 % 4 + (3 - j.val)) % 4) + c.val % 4, by have := c.isLt; show _ < 32; change c.val < 32 at this; omega⟩
set_option backward.proofsInPublic true in
/-- The device `j + 1` places on along `z`. -/
def zTo (j : Fin 3) (c : Dev nD) : Dev nD :=
  ⟨16 * (c.val / 16) + 4 * (c.val / 4 % 4) + (c.val % 4 + (j.val + 1)) % 4, by have := c.isLt; show _ < 32; change c.val < 32 at this; omega⟩
set_option backward.proofsInPublic true in
/-- The device `j + 1` places back along `z`. -/
def zFr (j : Fin 3) (c : Dev nD) : Dev nD :=
  ⟨16 * (c.val / 16) + 4 * (c.val / 4 % 4) + (c.val % 4 + (3 - j.val)) % 4, by have := c.isLt; show _ < 32; change c.val < 32 at this; omega⟩
set_option backward.proofsInPublic true in
/-- The device across `x`. -/
def xTo (c : Dev nD) : Dev nD :=
  ⟨16 * ((c.val / 16 + 1) % 2) + 4 * (c.val / 4 % 4) + c.val % 4, by have := c.isLt; show _ < 32; change c.val < 32 at this; omega⟩

theorem dlt (c : Dev nD) : c.val < 32 := c.isLt

theorem yFr_yTo (j : Fin 3) (c : Dev nD) : yFr j (yTo j c) = c := by
  have := dlt c; have := j.isLt; apply Fin.ext; simp only [yFr, yTo]; omega
theorem yTo_yFr (j : Fin 3) (c : Dev nD) : yTo j (yFr j c) = c := by
  have := dlt c; have := j.isLt; apply Fin.ext; simp only [yFr, yTo]; omega
theorem zFr_zTo (j : Fin 3) (c : Dev nD) : zFr j (zTo j c) = c := by
  have := dlt c; have := j.isLt; apply Fin.ext; simp only [zFr, zTo]; omega
theorem zTo_zFr (j : Fin 3) (c : Dev nD) : zTo j (zFr j c) = c := by
  have := dlt c; have := j.isLt; apply Fin.ext; simp only [zFr, zTo]; omega
theorem xTo_xTo (c : Dev nD) : xTo (xTo c) = c := by
  have := dlt c; apply Fin.ext; simp only [xTo]; omega

/-! ## Sites and cells -/

/-- A remote copy: along `y` (chunk `h`, peer `j`), along `z`, or across `x` (chunk `h`, row block `t`). -/
inductive Site | y (h : Fin 4) (j : Fin 3) | z (h : Fin 4) (j : Fin 3) | x (h t : Fin 4)
deriving DecidableEq

/-- A semaphore of a device: the barrier, a local copy's, a remote copy's departure, a remote copy's arrival. -/
inductive Cell | bar | cp (h t : Fin 4) | snd (s : Site) | rcv (s : Site)
deriving DecidableEq

/-- The sites, listed by their two indices; -/
def siteEquiv : (Fin 4 × Fin 3) ⊕ (Fin 4 × Fin 3) ⊕ (Fin 4 × Fin 4) ≃ Site where
  toFun | .inl p => .y p.1 p.2 | .inr (.inl p) => .z p.1 p.2 | .inr (.inr p) => .x p.1 p.2
  invFun | .y h j => .inl (h, j) | .z h j => .inr (.inl (h, j)) | .x h t => .inr (.inr (h, t))
  left_inv | .inl _ => rfl | .inr (.inl _) => rfl | .inr (.inr _) => rfl
  right_inv | .y _ _ => rfl | .z _ _ => rfl | .x _ _ => rfl
instance : Fintype Site := Fintype.ofEquiv _ siteEquiv
/-- and the cells. -/
def cellEquiv : Unit ⊕ (Fin 4 × Fin 4) ⊕ Site ⊕ Site ≃ Cell where
  toFun | .inl _ => .bar | .inr (.inl p) => .cp p.1 p.2 | .inr (.inr (.inl s)) => .snd s | .inr (.inr (.inr s)) => .rcv s
  invFun | .bar => .inl () | .cp h t => .inr (.inl (h, t)) | .snd s => .inr (.inr (.inl s)) | .rcv s => .inr (.inr (.inr s))
  left_inv | .inl _ => rfl | .inr (.inl _) => rfl | .inr (.inr (.inl _)) => rfl | .inr (.inr (.inr _)) => rfl
  right_inv | .bar => rfl | .cp _ _ => rfl | .snd _ => rfl | .rcv _ => rfl
instance : Fintype Cell := Fintype.ofEquiv _ cellEquiv

/-- Where device `c`'s copy at site `s` goes, -/
def Site.to : Site → Dev nD → Dev nD | .y _ j => yTo j | .z _ j => zTo j | .x _ _ => xTo
/-- and where the one arriving at it comes from. -/
def Site.fr : Site → Dev nD → Dev nD | .y _ j => yFr j | .z _ j => zFr j | .x _ _ => xTo

theorem Site.fr_to (s : Site) (c : Dev nD) : s.fr (s.to c) = c := by
  cases s with | y h j => exact yFr_yTo j c | z h j => exact zFr_zTo j c | x h t => exact xTo_xTo c
theorem Site.to_fr (s : Site) (c : Dev nD) : s.to (s.fr c) = c := by
  cases s with | y h j => exact yTo_yFr j c | z h j => exact zTo_zFr j c | x h t => exact xTo_xTo c

/-- The device whose barrier duty `d` device `c` pays, -/
def barTo (d : Fin 7) (c : Dev nD) : Dev nD := match d with
  | 0 => yFr 0 c | 1 => yFr 1 c | 2 => yFr 2 c | 3 => zFr 0 c | 4 => zFr 1 c | 5 => zFr 2 c | 6 => xTo c
/-- and the device that pays `c`'s. -/
def barFr (d : Fin 7) (c : Dev nD) : Dev nD := match d with
  | 0 => yTo 0 c | 1 => yTo 1 c | 2 => yTo 2 c | 3 => zTo 0 c | 4 => zTo 1 c | 5 => zTo 2 c | 6 => xTo c

theorem barFr_barTo (c : Dev nD) : ∀ d : Fin 7, barFr d (barTo d c) = c
  | 0 => yTo_yFr 0 c | 1 => yTo_yFr 1 c | 2 => yTo_yFr 2 c | 3 => zTo_zFr 0 c | 4 => zTo_zFr 1 c | 5 => zTo_zFr 2 c | 6 => xTo_xTo c
theorem barTo_barFr (c : Dev nD) : ∀ d : Fin 7, barTo d (barFr d c) = c
  | 0 => yFr_yTo 0 c | 1 => yFr_yTo 1 c | 2 => yFr_yTo 2 c | 3 => zFr_zTo 0 c | 4 => zFr_zTo 1 c | 5 => zFr_zTo 2 c | 6 => xTo_xTo c

/-- The runtime's barrier semaphore. -/
abbrev barS : Sem sig := (SemArray.scalar (sig.barrier 0 rfl) : Sems sig S_).sem

set_option backward.proofsInPublic true in
/-- The place of a cell among the copy semaphores. -/
def Cell.ix : Cell → ℕ
  | .bar => 0
  | .cp h t => 1 + (4 * h.val + t.val)
  | .snd (.y h j) => 17 + (3 * h.val + j.val)
  | .rcv (.y h j) => 29 + (3 * h.val + j.val)
  | .snd (.z h j) => 41 + (3 * h.val + j.val)
  | .rcv (.z h j) => 53 + (3 * h.val + j.val)
  | .snd (.x h t) => 65 + (4 * h.val + t.val)
  | .rcv (.x h t) => 81 + (4 * h.val + t.val)

theorem Cell.ix_lt (k : Cell) : k.ix < 97 := by
  rcases k with _ | ⟨h, t⟩ | (⟨h, j⟩ | ⟨h, j⟩ | ⟨h, t⟩) | (⟨h, j⟩ | ⟨h, j⟩ | ⟨h, t⟩) <;>
    simp only [Cell.ix] <;> omega

theorem Cell.ix_inj (k k' : Cell) (e : k.ix = k'.ix) : k = k' := by
  rcases k with _ | ⟨h, t⟩ | (⟨h, j⟩ | ⟨h, j⟩ | ⟨h, t⟩) | (⟨h, j⟩ | ⟨h, j⟩ | ⟨h, t⟩) <;>
  rcases k' with _ | ⟨h', t'⟩ | (⟨h', j'⟩ | ⟨h', j'⟩ | ⟨h', t'⟩) | (⟨h', j'⟩ | ⟨h', j'⟩ | ⟨h', t'⟩) <;>
    simp only [Cell.ix, Cell.cp.injEq, Cell.snd.injEq, Cell.rcv.injEq, Site.y.injEq, Site.z.injEq, Site.x.injEq, Fin.ext_iff, reduceCtorEq] at e ⊢ <;> omega

/-- The semaphore of a cell. -/
def csem (k : Cell) : SemLoc sig := if k = .bar then .reg barS else .dma (⟨k.ix, k.ix_lt⟩ : Fin 97)

theorem csem_bar : csem .bar = .reg barS := rfl
theorem csem_of_ne {k : Cell} (h : k ≠ .bar) : csem k = .dma (⟨k.ix, k.ix_lt⟩ : Fin 97) := if_neg h

theorem csem_injective : Function.Injective csem := by
  intro k k' e
  unfold csem at e
  split at e <;> split at e
  · next h h' => exact h.trans h'.symm
  · cases e
  · cases e
  · exact Cell.ix_inj k k' (congrArg (fun s : SemLoc sig => match s with | .dma q => (q : Fin 97).val | .reg _ => 0) e)

/-- Cell `k` of device `c`. -/
abbrev gcell (c : Dev nD) (k : Cell) : GSem nD τ sig := ((c : Thread nD τ), csem k)

theorem gcell_injective : Function.Injective fun ck : Dev nD × Cell => gcell ck.1 ck.2 := fun a b e =>
  Prod.ext (congrArg (fun g : GSem nD τ sig => g.1.1) e) (csem_injective (congrArg Prod.snd e))

theorem gcell_inj {c c' : Dev nD} {k k' : Cell} (e : gcell c k = gcell c' k') : c = c' ∧ k = k' :=
  Prod.mk.injEq .. ▸ gcell_injective (a₁ := (c, k)) (a₂ := (c', k')) e

/-- The cell a semaphore is, if it is one. -/
def cellAt (sm : SemLoc sig) : Option Cell := Function.partialInv csem sm
theorem cellAt_csem (k : Cell) : cellAt (csem k) = some k := Function.partialInv_left csem_injective k

/-- The semaphore arrays, element by element. -/
theorem sem44 {base : ℕ} (hb : base + S4x4.numel ≤ 97) (h t : ℕ) (inb) (sq) (hlt : base + (4 * h + t) < 97) :
    (((SemArray.consecutive (n := 97) base S4x4 hb).slice (Rect.unit (s := S4x4) ![h, t] ![1, 1] inb)).squeeze S_ sq).sem = (⟨base + (4 * h + t), hlt⟩ : Fin 97) := by
  apply Fin.ext
  unfold SemArray.sem
  rw [SemArray.ix_squeeze, SemArray.ix_slice]
  generalize Shape.reshapeEquiv _ _ = w
  show base + (S4x4.rowMajor ((Rect.unit (s := S4x4) ![h, t] ![1, 1] inb).emb w)).val = _
  rw [Shape.rowMajor_val_two, Rect.emb_apply, Rect.emb_apply]
  have h0 : (w 0).val < 1 := (w 0).isLt
  have h1 : (w 1).val < 1 := (w 1).isLt
  show base + ((h + 1 * (w 0).val) * 4 + (t + 1 * (w 1).val)) = base + (4 * h + t)
  omega
theorem sem43 {base : ℕ} (hb : base + S4x3.numel ≤ 97) (h t : ℕ) (inb) (sq) (hlt : base + (3 * h + t) < 97) :
    (((SemArray.consecutive (n := 97) base S4x3 hb).slice (Rect.unit (s := S4x3) ![h, t] ![1, 1] inb)).squeeze S_ sq).sem = (⟨base + (3 * h + t), hlt⟩ : Fin 97) := by
  apply Fin.ext
  unfold SemArray.sem
  rw [SemArray.ix_squeeze, SemArray.ix_slice]
  generalize Shape.reshapeEquiv _ _ = w
  show base + (S4x3.rowMajor ((Rect.unit (s := S4x3) ![h, t] ![1, 1] inb).emb w)).val = _
  rw [Shape.rowMajor_val_two, Rect.emb_apply, Rect.emb_apply]
  have h0 : (w 0).val < 1 := (w 0).isLt
  have h1 : (w 1).val < 1 := (w 1).isLt
  show base + ((h + 1 * (w 0).val) * 3 + (t + 1 * (w 1).val)) = base + (3 * h + t)
  omega

/-! ## The pieces of the buffers -/

/-- Rows `r … r + 511`, columns `k … k + 255` of the output block, -/
def oSet (r k : ℕ) : Finset S4096x1024.Idx :=
  Finset.univ.filter fun i => (r ≤ (i 0).val ∧ (i 0).val < r + 512) ∧ k ≤ (i 1).val ∧ (i 1).val < k + 256
/-- of a device's block of the input; -/
def xSet (r k : ℕ) : Finset S4096x4096.Idx :=
  Finset.univ.filter fun i => (r ≤ (i 0).val ∧ (i 0).val < r + 512) ∧ k ≤ (i 1).val ∧ (i 1).val < k + 256
/-- tile `[h, j]` of a 4 × 3 tile buffer, -/
def bSet (h j : ℕ) : Finset S4x3x512x256.Idx := Finset.univ.filter fun i => (i 0).val = h ∧ (i 1).val = j
/-- of the 4 × 4 tile buffer. -/
def sSet (h t : ℕ) : Finset S4x4x512x256.Idx := Finset.univ.filter fun i => (i 0).val = h ∧ (i 1).val = t

theorem oRect_set (r k : ℕ) (inb) : (Rect.unit (s := S4096x1024) ![r, k] ![512, 256] inb).set = oSet r k := by
  ext i; unfold oSet; rw [Rect.mem_set_unit, Fin.forall_fin_two, Finset.mem_filter]
  exact ⟨fun h => ⟨Finset.mem_univ _, h⟩, fun h => h.2⟩
theorem xRect_set (r k : ℕ) (inb) : (Rect.unit (s := S4096x4096) ![r, k] ![512, 256] inb).set = xSet r k := by
  ext i; unfold xSet; rw [Rect.mem_set_unit, Fin.forall_fin_two, Finset.mem_filter]
  exact ⟨fun h => ⟨Finset.mem_univ _, h⟩, fun h => h.2⟩
theorem bRect_set (h j : ℕ) (inb) : (Rect.unit (s := S4x3x512x256) ![h, j, 0, 0] ![1, 1, 512, 256] inb).set = bSet h j := by
  ext i; unfold bSet; rw [Rect.mem_set_unit, Finset.mem_filter]
  have h2 : (i 2).val < 512 := (i 2).isLt
  have h3 : (i 3).val < 256 := (i 3).isLt
  constructor
  · intro H
    have a0 : h ≤ (i 0).val ∧ (i 0).val < h + 1 := H 0
    have a1 : j ≤ (i 1).val ∧ (i 1).val < j + 1 := H 1
    exact ⟨Finset.mem_univ _, by omega, by omega⟩
  · rintro ⟨-, e0, e1⟩ a
    match a with
    | 0 => exact (show h ≤ (i 0).val ∧ (i 0).val < h + 1 by omega)
    | 1 => exact (show j ≤ (i 1).val ∧ (i 1).val < j + 1 by omega)
    | 2 => exact (show 0 ≤ (i 2).val ∧ (i 2).val < 0 + 512 by omega)
    | 3 => exact (show 0 ≤ (i 3).val ∧ (i 3).val < 0 + 256 by omega)
theorem sRect_set (h j : ℕ) (inb) : (Rect.unit (s := S4x4x512x256) ![h, j, 0, 0] ![1, 1, 512, 256] inb).set = sSet h j := by
  ext i; unfold sSet; rw [Rect.mem_set_unit, Finset.mem_filter]
  have h2 : (i 2).val < 512 := (i 2).isLt
  have h3 : (i 3).val < 256 := (i 3).isLt
  constructor
  · intro H
    have a0 : h ≤ (i 0).val ∧ (i 0).val < h + 1 := H 0
    have a1 : j ≤ (i 1).val ∧ (i 1).val < j + 1 := H 1
    exact ⟨Finset.mem_univ _, by omega, by omega⟩
  · rintro ⟨-, e0, e1⟩ a
    match a with
    | 0 => exact (show h ≤ (i 0).val ∧ (i 0).val < h + 1 by omega)
    | 1 => exact (show j ≤ (i 1).val ∧ (i 1).val < j + 1 by omega)
    | 2 => exact (show 0 ≤ (i 2).val ∧ (i 2).val < 0 + 512 by omega)
    | 3 => exact (show 0 ≤ (i 3).val ∧ (i 3).val < 0 + 256 by omega)

/-- The first row of row block `t` of device `c`'s half: `t` places back along `z`. -/
def ro (c : Dev nD) (t : ℕ) : ℕ := 1024 * ((c.val % 4 + 4 - t) % 4) + 512 * (c.val / 16)
/-- The first column of what device `c` reads for its peer `t + 1` on along `y` (`t = 3`: itself), chunk `h`. -/
def co (c : Dev nD) (t h : ℕ) : ℕ := 1024 * ((c.val / 4 % 4 + t + 1) % 4) + 256 * h

/-! ## Contents -/

abbrev XT (F : FTy → Type) : Type := (main_v1 : Ref sig .tc).ty.Contents (Elt F)
abbrev OT (F : FTy → Type) : Type := (cc0_stg0_0 : Ref sig .tc).ty.Contents (Elt F)
abbrev BT (F : FTy → Type) : Type := (cc0_scratch0 : Ref sig .tc).ty.Contents (Elt F)
abbrev ST (F : FTy → Type) : Type := (cc0_scratch2 : Ref sig .tc).ty.Contents (Elt F)

/-- The index of a row and a column. -/
def at2 (r k : ℕ) : S4096x4096.Idx :=
  Shape.pair (d := ![4096, 4096]) ⟨r % 4096, Nat.mod_lt _ (by decide)⟩ ⟨k % 4096, Nat.mod_lt _ (by decide)⟩

section Contents
variable (X : Dev nD → XT F)

/-- Element `(a, b)` of chunk `h` of what device `c` reads for peer `t`. -/
def val (c : Dev nD) (t h a b : ℕ) : F .f32 := X c (at2 (ro c 0 + a) (co c t h + b))
/-- The same rounded to the format the device sends. -/
def cvt (c : Dev nD) (t h a b : ℕ) : F .bf16 := FloatOps.truncf .bf16 bitsLt_bf16_f32 (val X c t h a b)
/-- The sum of the four copies: device `c`'s own, then those from one, two, three places back along `y`. -/
def tot (c : Dev nD) (h a b : ℕ) : F .bf16 :=
  FloatOps.addf (FloatOps.addf (FloatOps.addf (cvt X c 3 h a b) (cvt X (yFr 0 c) 0 h a b)) (cvt X (yFr 1 c) 1 h a b)) (cvt X (yFr 2 c) 2 h a b)

/-- The staging buffer once filled; -/
def stg (c : Dev nD) : ST F := fun (i : S4x4x512x256.Idx) => val X c (i 1).val (i 0).val (i 2).val (i 3).val
/-- the buffer of tiles to send; -/
def ybS (c : Dev nD) : BT F := fun (i : S4x3x512x256.Idx) => cvt X c (i 1).val (i 0).val (i 2).val (i 3).val
/-- the buffer of tiles received; -/
def ybR (c : Dev nD) : BT F := fun (i : S4x3x512x256.Idx) => cvt X (yFr (i 1) c) (i 1).val (i 0).val (i 2).val (i 3).val
set_option backward.proofsInPublic true in
/-- the device that adds row `r` of device `c`'s column block; -/
def owner (c : Dev nD) (r : ℕ) : Dev nD :=
  ⟨16 * (r / 512 % 2) + 4 * (c.val / 4 % 4) + r / 1024 % 4, by show _ < 32; omega⟩
/-- the output block. -/
def outF (c : Dev nD) : OT F := fun (i : S4096x1024.Idx) => tot X (owner c (i 0).val) ((i 1).val / 256) ((i 0).val % 512) ((i 1).val % 256)

theorem owner_z (j : Fin 3) (c : Dev nD) (r : ℕ) : owner (zTo j c) r = owner c r := by
  have := dlt c; have := j.isLt; apply Fin.ext; simp only [owner, zTo]; omega
theorem owner_x (c : Dev nD) (r : ℕ) : owner (xTo c) r = owner c r := by
  have := dlt c; apply Fin.ext; simp only [owner, xTo]; omega
theorem outF_z (j : Fin 3) (c : Dev nD) : outF X (zTo j c) = outF X c := by unfold outF; simp only [owner_z]
theorem outF_x (c : Dev nD) : outF X (xTo c) = outF X c := by unfold outF; simp only [owner_x]

end Contents

end Cert.KernelIdeal.Proof

end
-- ==== Proof.Sched.lean ====
/-
# `Sched`: the protocol — what each semaphore's round hands over, what each device owes, the levels

Every semaphore has one round. The barrier's has seven duties, one per device that signals it: each
hands over the places in its own buffers that the receiver will write. A copy's departure returns
the source, its arrival hands over the landed tile at the contents it must have.
-/
module

public import proofs.«01_k».proof.Proof.Geom

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Amounts -/

/-- The credit of a 512 × 256 tile of the two formats. -/
def NB : ℕ := ((Memref.whole cc0_stg0_0).slice (Rect.unit (s := S4096x1024) ![0, 0] ![512, 256] (by decide)) (fun _ => rfl)).view.dmaCredit
def NS : ℕ := ((Memref.whole main_v1).slice (Rect.unit (s := S4096x4096) ![0, 0] ![512, 256] (by decide)) (fun _ => rfl)).view.dmaCredit
theorem NB_pos : 0 < NB := View.dmaCredit_pos _ (by decide)
theorem NS_pos : 0 < NS := View.dmaCredit_pos _ (by decide)

theorem amtO (o inb hs) : ((Memref.whole cc0_stg0_0).slice (Rect.unit (s := S4096x1024) o ![512, 256] inb) hs).view.dmaCredit = NB := rfl
theorem amtR (o inb hs sq) : (((Memref.whole cc0_scratch1).slice (Rect.unit (s := S4x3x512x256) o ![1, 1, 512, 256] inb) hs).squeeze S512x256 sq).view.dmaCredit = NB := rfl
theorem amtB (o inb hs sq) : (((Memref.whole cc0_scratch0).slice (Rect.unit (s := S4x3x512x256) o ![1, 1, 512, 256] inb) hs).squeeze S512x256 sq).view.dmaCredit = NB := rfl
theorem amtS (o inb hs sq) : (((Memref.whole cc0_scratch2).slice (Rect.unit (s := S4x4x512x256) o ![1, 1, 512, 256] inb) hs).squeeze S512x256 sq).view.dmaCredit = NS := rfl

/-- What a duty of a cell contributes, -/
def amt : Cell → ℕ | .bar => 1 | .cp _ _ => NS | .snd _ => NB | .rcv _ => NB
theorem amt_pos (k : Cell) : 0 < amt k := by
  cases k with | bar => exact Nat.one_pos | cp h t => exact NS_pos | snd s => exact NB_pos | rcv s => exact NB_pos
/-- and which duties it has. -/
def dut : Cell → Finset (Fin 7) | .bar => Finset.univ | .cp _ _ => {0} | .snd _ => {0} | .rcv _ => {0}
theorem dut_of_ne {k : Cell} (h : k ≠ .bar) : dut k = {0} := by cases k <;> first | rfl | exact absurd rfl h

/-! ## Pieces owned -/

def xP (c : Dev nD) (r k : ℕ) (f : XT F) : sProp 𝕄 := ((c : Thread nD τ).loc main_v1) ↦[xSet r k]{fullShare} f
def oP (c : Dev nD) (q : PosShare TreeShare) (r h : ℕ) (f : OT F) : sProp 𝕄 := ((c : Thread nD τ).loc cc0_stg0_0) ↦[oSet r (256 * h)]{q} f
def bP (c : Dev nD) (h j : ℕ) (f : BT F) : sProp 𝕄 := ((c : Thread nD τ).loc cc0_scratch0) ↦[bSet h j]{fullShare} f
def rP (c : Dev nD) (h j : ℕ) (f : BT F) : sProp 𝕄 := ((c : Thread nD τ).loc cc0_scratch1) ↦[bSet h j]{fullShare} f
def sP (c : Dev nD) (h t : ℕ) (f : ST F) : sProp 𝕄 := ((c : Thread nD τ).loc cc0_scratch2) ↦[sSet h t]{fullShare} f

section Storable
variable (c : Dev nD)
omit [FloatOps F] in
instance xP_storable (r k f) : BI.Storable (upEmb : UEmb _ 𝕄) (xP (F := F) c r k f) := by unfold xP; infer_instance
omit [FloatOps F] in
instance oP_storable (q r k f) : BI.Storable (upEmb : UEmb _ 𝕄) (oP (F := F) c q r k f) := by unfold oP; infer_instance
omit [FloatOps F] in
instance bP_storable (r k f) : BI.Storable (upEmb : UEmb _ 𝕄) (bP (F := F) c r k f) := by unfold bP; infer_instance
omit [FloatOps F] in
instance rP_storable (r k f) : BI.Storable (upEmb : UEmb _ 𝕄) (rP (F := F) c r k f) := by unfold rP; infer_instance
omit [FloatOps F] in
instance sP_storable (r k f) : BI.Storable (upEmb : UEmb _ 𝕄) (sP (F := F) c r k f) := by unfold sP; infer_instance
end Storable

/-- The share of its own tile a device lends to its `k`th reader: across `x`, then along `z`. -/
def shr (k : Fin 4) : PosShare TreeShare := pieceOf fullShare 4 (by decide) k

/-- Where the copy at site `s` lands on device `c`, at some contents, with the mark that the arrival cell is open. -/
def landAny (c : Dev nD) (s : Site) : sProp 𝕄 :=
  iprop((match s with
    | .y h j => iprop(∃ f, rP c h.val j.val f)
    | .z h j => iprop(∃ f, oP c fullShare (ro c (j.val + 1)) h.val f)
    | .x h t => iprop(∃ f, oP c fullShare (ro (xTo c) t.val) h.val f)) ∗ reached ER (gcell c (.rcv s)) 0)

section Pay
variable (X : Dev nD → XT F)

/-- What arrives there; -/
def landed (c : Dev nD) : Site → sProp 𝕄
  | .y h j => rP c h.val j.val (ybR X c)
  | .z h j => oP c fullShare (ro c (j.val + 1)) h.val (outF X c)
  | .x h t => oP c fullShare (ro (xTo c) t.val) h.val (outF X c)
/-- what it is copied from. -/
def srcP (c : Dev nD) : Site → sProp 𝕄
  | .y h j => bP c h.val j.val (ybS X c)
  | .z h j => oP c (shr j.succ) (ro c 0) h.val (outF X c)
  | .x h t => oP c (if t.val = 0 then shr 0 else fullShare) (ro c t.val) h.val (outF X c)
/-- What a local copy leaves: the staging tile filled, the source back. -/
def cpP (c : Dev nD) (h t : Fin 4) : sProp 𝕄 :=
  iprop(sP c h.val t.val (stg X c) ∗ xP c (ro c 0) (co c t.val h.val) (X c))

/-- The barrier signal that opens the way for the copy at a site: one for each peer. -/
def sg : Site → Fin 7
  | .y _ j => j.castLE (by decide)
  | .z _ j => ⟨3 + j.val, by omega⟩
  | .x _ _ => 6

/-- Duty `d` of device `c`'s barrier: the places on the signalling device that `c` writes. -/
def barPay (c : Dev nD) (d : Fin 7) : sProp 𝕄 :=
  bigSep (Finset.univ.filter fun s => sg s = d) fun s => landAny (barFr d c) s

/-- What duty `d` of cell `k` of device `c` hands over. -/
def pay (c : Dev nD) (k : Cell) (d : Fin 7) : sProp 𝕄 := match k with
  | .bar => barPay c d
  | .cp h t => cpP X c h t
  | .snd s => srcP X c s
  | .rcv s => landed X c s

omit [FloatOps F] in
instance landAny_storable (c : Dev nD) (s : Site) : BI.Storable (upEmb : UEmb _ 𝕄) (landAny (F := F) c s) := by
  unfold landAny; cases s <;> infer_instance
omit [FloatOps F] in
instance barPay_storable (c : Dev nD) (d : Fin 7) : BI.Storable (upEmb : UEmb _ 𝕄) (barPay (F := F) c d) := by
  unfold barPay; infer_instance
instance pay_storable (c : Dev nD) (k : Cell) (d : Fin 7) : BI.Storable (upEmb : UEmb _ 𝕄) (pay X c k d) := by
  unfold pay
  cases k with
  | bar => exact barPay_storable c d
  | cp h t => show BI.Storable _ (cpP X c h t); unfold cpP; infer_instance
  | snd s => show BI.Storable _ (srcP X c s); cases s <;> (unfold srcP; infer_instance)
  | rcv s => show BI.Storable _ (landed X c s); cases s <;> (unfold landed; infer_instance)

/-- The schedule. -/
def Rd : Rounds.Schedule (GSem nD τ sig) (Fin 7) 𝕄 where
  duties g r := if r = 0 then (match cellAt g.2 with | some k => dut k | none => ∅) else ∅
  unitless _ := False
  amount g _ _ := match cellAt g.2 with | some k => amt k | none => 1
  payload g _ d := match cellAt g.2 with | some k => pay X g.1.1 k d | none => iprop(emp)
  amount_pos g _ _ _ := by
    cases cellAt g.2 with
    | some k => exact amt_pos k
    | none => exact Nat.one_pos

instance Rd_payload_storable (g : GSem nD τ sig) (r : ℕ) (d : Fin 7) : BI.Storable (upEmb : UEmb _ 𝕄) ((Rd X).payload g r d) := by
  show BI.Storable _ (match cellAt g.2 with | some k => pay X g.1.1 k d | none => iprop(emp))
  cases cellAt g.2 <;> infer_instance

theorem Rd_duties (c : Dev nD) (k : Cell) : (Rd X).duties (gcell c k) 0 = dut k := by
  show (if (0 : ℕ) = 0 then (match cellAt (csem k) with | some k => dut k | none => ∅) else ∅) = _
  rw [if_pos rfl, cellAt_csem]
theorem Rd_later (g : GSem nD τ sig) (r : ℕ) (h : 1 ≤ r) : (Rd X).duties g r = ∅ := if_neg (by omega)
theorem Rd_amount (c : Dev nD) (k : Cell) (d : Fin 7) : (Rd X).amount (gcell c k) 0 d = amt k := by
  show (match cellAt (csem k) with | some k => amt k | none => 1) = _
  rw [cellAt_csem]
theorem Rd_payload (c : Dev nD) (k : Cell) (d : Fin 7) : (Rd X).payload (gcell c k) 0 d = pay X c k d := by
  show (match cellAt (csem k) with | some k => pay X c k d | none => iprop(emp)) = _
  rw [cellAt_csem]
theorem Rd_expect {k : Cell} (c : Dev nD) (h : k ≠ .bar) : (Rd X).expect (gcell c k) 0 = amt k := by
  unfold Schedule.expect Schedule.amountOf
  rw [Rd_duties, dut_of_ne h, Finset.sum_singleton, Rd_amount]
theorem Rd_expect_bar (c : Dev nD) : (Rd X).expect (gcell c .bar) 0 = 7 := by
  unfold Schedule.expect Schedule.amountOf
  rw [Rd_duties, Finset.sum_congr rfl fun d _ => Rd_amount X c .bar d]
  show ∑ _x : Fin 7, 1 = 7
  simp
theorem Rd_rest {k : Cell} (c : Dev nD) (h : k ≠ .bar) :
    bigSep ((Rd X).duties (gcell c k) 0 \ ∅) (fun d => (Rd X).payload (gcell c k) 0 d) = pay X c k 0 := by
  rw [Finset.sdiff_empty, Rd_duties, dut_of_ne h, bigSep_singleton, Rd_payload]
theorem Rd_rest_bar (c : Dev nD) :
    bigSep ((Rd X).duties (gcell c .bar) 0 \ ∅) (fun d => (Rd X).payload (gcell c .bar) 0 d)
      = bigSep Finset.univ fun d : Fin 7 => barPay c d := by
  rw [Finset.sdiff_empty, Rd_duties]
  exact bigSep_congr fun d _ => Rd_payload X c .bar d

end Pay

/-! ## What a device owes -/

/-- A payment a device makes to another: one of the seven barrier signals, or a remote copy's arrival. -/
inductive Pay | bar (d : Fin 7) | at (s : Site)
deriving DecidableEq

def payEquiv : Fin 7 ⊕ Site ≃ Pay where
  toFun | .inl d => .bar d | .inr s => .at s
  invFun | .bar d => .inl d | .at s => .inr s
  left_inv | .inl _ => rfl | .inr _ => rfl
  right_inv | .bar _ => rfl | .at _ => rfl
instance : Fintype Pay := Fintype.ofEquiv _ payEquiv

def Pay.cell : Pay → Cell | .bar _ => .bar | .at s => .rcv s
def Pay.to : Pay → Dev nD → Dev nD | .bar d => barTo d | .at s => s.to
def Pay.fr : Pay → Dev nD → Dev nD | .bar d => barFr d | .at s => s.fr
theorem Pay.fr_to (p : Pay) (c : Dev nD) : p.fr (p.to c) = c := by
  cases p with | bar d => exact barFr_barTo c d | «at» s => exact s.fr_to c
theorem Pay.to_fr (p : Pay) (c : Dev nD) : p.to (p.fr c) = c := by
  cases p with | bar d => exact barTo_barFr c d | «at» s => exact s.to_fr c

/-- What payment `p` of device `c` adds to what it owes; -/
def owe1 (c : Dev nD) (p : Pay) : CellTallies nD τ sig Unit := tallyAt (gcell (p.to c) p.cell) () (amt p.cell)
/-- a list of payments still to make. -/
def owe (c : Dev nD) : List Pay → CellTallies nD τ sig Unit
  | [] => 0
  | p :: l => owe c l + owe1 c p

/-- The forty copies in the order a device issues them, -/
def sends : List Site :=
  [.y 0 0, .y 0 1, .y 0 2, .x 0 0, .z 0 0, .z 0 1, .z 0 2, .y 1 0, .y 1 1, .y 1 2, .x 0 1, .x 1 0, .z 1 0, .z 1 1, .z 1 2,
   .y 2 0, .y 2 1, .y 2 2, .x 0 2, .x 1 1, .x 2 0, .z 2 0, .z 2 1, .z 2 2, .y 3 0, .y 3 1, .y 3 2, .x 0 3, .x 1 2, .x 2 1,
   .x 3 0, .z 3 0, .z 3 1, .z 3 2, .x 1 3, .x 2 2, .x 3 1, .x 2 3, .x 3 2, .x 3 3]
/-- and before them the barrier signals. -/
def pays : List Pay := [.bar 2, .bar 1, .bar 0, .bar 5, .bar 4, .bar 3, .bar 6] ++ sends.map .at

/-! ## Levels -/

def L (g : GSem nD τ sig) : Finset Unit := if g.1.2 = .tc then {()} else ∅
/-- The barrier at 1, the arrivals above it in the order of the copies, everything else at 0. -/
def clv : Cell → ℕ | .bar => 1 | .rcv s => 2 + sends.idxOf s | .cp _ _ => 0 | .snd _ => 0
def lv (g : GSem nD τ sig) (_ : Unit) : ℕ := match cellAt g.2 with | some k => clv k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_gcell (c : Dev nD) (k : Cell) (u : Unit) : lv (gcell c k) u = clv k := by
  show (match cellAt (csem k) with | some k => clv k | none => 0) = _
  rw [cellAt_csem]

theorem owe_pos (c : Dev nD) {g : GSem nD τ sig} {u : Unit} : ∀ l : List Pay, 0 < owe c l g u → ∃ p ∈ l, g = gcell (p.to c) p.cell
  | [], h => absurd h (Nat.lt_irrefl 0)
  | p :: l, h => by
    unfold owe at h
    rw [Pi.add_apply, Finsupp.add_apply] at h
    rcases Nat.add_pos_iff_pos_or_pos.mp h with h | h
    · obtain ⟨p', hp, e⟩ := owe_pos c l h
      exact ⟨p', List.mem_cons_of_mem _ hp, e⟩
    · unfold owe1 at h
      rw [tallyAt_apply] at h
      split at h
      · next hg => exact ⟨p, List.mem_cons_self, hg.1⟩
      · exact absurd h (Nat.lt_irrefl 0)

omit [FloatOps F] in
/-- A device may wait on a semaphore below everything it still owes. -/
theorem mayWait (c : Dev nD) (sm : SemLoc sig) (l : List Pay) (h : ∀ p ∈ l, lv ((c : Thread nD τ), sm) () < clv p.cell) :
    (levAts L lv : sProp 𝕄) ⊢ MayWait (c : Thread nD τ) sm () (owe c l) := by
  refine MayOwe.of_cut (L := L) (lev := lv) (lv ((c : Thread nD τ), sm) ()) (fun p hp => ?_) (fun g u hg => ?_) (fun p hp => ?_) (fun g u hg => ?_)
  · rw [Finset.mem_singleton.mp hp, L_tc]; exact Finset.mem_singleton_self _
  · obtain ⟨p, -, rfl⟩ := owe_pos c l hg; exact Finset.mem_singleton_self _
  · rw [Finset.mem_singleton.mp hp]
  · obtain ⟨p, hp, rfl⟩ := owe_pos c l hg; rw [lv_gcell]; exact h p hp

end Cert.KernelIdeal.Proof

end
-- ==== Proof.Steps.lean ====
/-
# `Steps`: the kernel's operations, one lemma for each kind

A wait on a semaphore other than the barrier, a local copy, and the three kinds of remote copy, each
at a symbolic device; and the contents the copies and stores leave.
-/
module

public import proofs.«01_k».proof.Proof.Sched
public import Idealize.ShloMosaic.Lib.Pipeline.Value

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The views the program uses -/

abbrev tO (o : Fin 2 → ℕ) (inb : ∀ a, o a + (![512, 256] : Fin 2 → ℕ) a ≤ S4096x1024.size a) :=
  (Memref.whole cc0_stg0_0).slice (Rect.unit (s := S4096x1024) o ![512, 256] inb) (fun _ => rfl)
abbrev tX (o : Fin 2 → ℕ) (inb : ∀ a, o a + (![512, 256] : Fin 2 → ℕ) a ≤ S4096x4096.size a) :=
  (Memref.whole main_v1).slice (Rect.unit (s := S4096x4096) o ![512, 256] inb) (fun _ => rfl)
abbrev tB (o : Fin 4 → ℕ) (inb : ∀ a, o a + (![1, 1, 512, 256] : Fin 4 → ℕ) a ≤ S4x3x512x256.size a) :=
  ((Memref.whole cc0_scratch0).slice (Rect.unit (s := S4x3x512x256) o ![1, 1, 512, 256] inb) (fun _ => rfl)).squeeze S512x256 squeezes_S1x1x512x256_S512x256
abbrev tR (o : Fin 4 → ℕ) (inb : ∀ a, o a + (![1, 1, 512, 256] : Fin 4 → ℕ) a ≤ S4x3x512x256.size a) :=
  ((Memref.whole cc0_scratch1).slice (Rect.unit (s := S4x3x512x256) o ![1, 1, 512, 256] inb) (fun _ => rfl)).squeeze S512x256 squeezes_S1x1x512x256_S512x256
abbrev tS (o : Fin 4 → ℕ) (inb : ∀ a, o a + (![1, 1, 512, 256] : Fin 4 → ℕ) a ≤ S4x4x512x256.size a) :=
  ((Memref.whole cc0_scratch2).slice (Rect.unit (s := S4x4x512x256) o ![1, 1, 512, 256] inb) (fun _ => rfl)).squeeze S512x256 squeezes_S1x1x512x256_S512x256
/-- One semaphore of an array of sixteen, -/
abbrev sem4 (m : DmaSems sig S4x4) (a b : ℕ) (inb : ∀ i, (![a, b] : Fin 2 → ℕ) i + (![1, 1] : Fin 2 → ℕ) i ≤ S4x4.size i) : DmaSem sig :=
  ((m.slice (Rect.unit (s := S4x4) ![a, b] ![1, 1] inb)).squeeze S_ squeezes_S1x1_S_).sem
/-- and of twelve. -/
abbrev sem3 (m : DmaSems sig S4x3) (a b : ℕ) (inb : ∀ i, (![a, b] : Fin 2 → ℕ) i + (![1, 1] : Fin 2 → ℕ) i ≤ S4x3.size i) : DmaSem sig :=
  ((m.slice (Rect.unit (s := S4x3) ![a, b] ![1, 1] inb)).squeeze S_ squeezes_S1x1_S_).sem

theorem sem_cp (h t : Fin 4) (inb) : SemLoc.dma (sem4 cc0_scratch3 h.val t.val inb) = csem (.cp h t) :=
  congrArg SemLoc.dma (sem44 (base := 1) hcc0_scratch3 h.val t.val inb _ (by omega))
theorem sem_snd_y (h : Fin 4) (j : Fin 3) (inb) : SemLoc.dma (sem3 cc0_scratch4 h.val j.val inb) = csem (.snd (.y h j)) :=
  congrArg SemLoc.dma (sem43 (base := 17) hcc0_scratch4 h.val j.val inb _ (by omega))
theorem sem_rcv_y (h : Fin 4) (j : Fin 3) (inb) : SemLoc.dma (sem3 cc0_scratch5 h.val j.val inb) = csem (.rcv (.y h j)) :=
  congrArg SemLoc.dma (sem43 (base := 29) hcc0_scratch5 h.val j.val inb _ (by omega))
theorem sem_snd_z (h : Fin 4) (j : Fin 3) (inb) : SemLoc.dma (sem3 cc0_scratch6 h.val j.val inb) = csem (.snd (.z h j)) :=
  congrArg SemLoc.dma (sem43 (base := 41) hcc0_scratch6 h.val j.val inb _ (by omega))
theorem sem_rcv_z (h : Fin 4) (j : Fin 3) (inb) : SemLoc.dma (sem3 cc0_scratch7 h.val j.val inb) = csem (.rcv (.z h j)) :=
  congrArg SemLoc.dma (sem43 (base := 53) hcc0_scratch7 h.val j.val inb _ (by omega))
theorem sem_snd_x (h t : Fin 4) (inb) : SemLoc.dma (sem4 cc0_scratch8 h.val t.val inb) = csem (.snd (.x h t)) :=
  congrArg SemLoc.dma (sem44 (base := 65) hcc0_scratch8 h.val t.val inb _ (by omega))
theorem sem_rcv_x (h t : Fin 4) (inb) : SemLoc.dma (sem4 cc0_scratch9 h.val t.val inb) = csem (.rcv (.x h t)) :=
  congrArg SemLoc.dma (sem44 (base := 81) hcc0_scratch9 h.val t.val inb _ (by omega))

theorem tO_set (r k : ℕ) (inb) : (tO ![r, k] inb).view.set = oSet r k := (View.set_slice_whole _ _).trans (oRect_set r k inb)
theorem tX_set (r k : ℕ) (inb) : (tX ![r, k] inb).view.set = xSet r k := (View.set_slice_whole _ _).trans (xRect_set r k inb)
theorem tB_set (h j : ℕ) (inb) : (tB ![h, j, 0, 0] inb).view.set = bSet h j :=
  (View.set_reshape _ _).trans ((View.set_slice_whole _ _).trans (bRect_set h j inb))
theorem tR_set (h j : ℕ) (inb) : (tR ![h, j, 0, 0] inb).view.set = bSet h j :=
  (View.set_reshape _ _).trans ((View.set_slice_whole _ _).trans (bRect_set h j inb))
theorem tS_set (h j : ℕ) (inb) : (tS ![h, j, 0, 0] inb).view.set = sSet h j :=
  (View.set_reshape _ _).trans ((View.set_slice_whole _ _).trans (sRect_set h j inb))

omit [FloatOps F] in
theorem oP_eq (c : Dev nD) (q r h f inb) : oP (F := F) c q r h f = ((tO ![r, 256 * h] inb).view.loc (c : Thread nD τ) ↦[(tO ![r, 256 * h] inb).view.set]{q} f) := by
  rw [tO_set]; rfl
omit [FloatOps F] in
theorem xP_eq (c : Dev nD) (r k f inb) : xP (F := F) c r k f = ((tX ![r, k] inb).view.loc (c : Thread nD τ) ↦[(tX ![r, k] inb).view.set]{fullShare} f) := by
  rw [tX_set]; rfl
omit [FloatOps F] in
theorem bP_eq (c : Dev nD) (h j f inb) : bP (F := F) c h j f = ((tB ![h, j, 0, 0] inb).view.loc (c : Thread nD τ) ↦[(tB ![h, j, 0, 0] inb).view.set]{fullShare} f) := by
  rw [tB_set]; rfl
omit [FloatOps F] in
theorem rP_eq (c : Dev nD) (h j f inb) : rP (F := F) c h j f = ((tR ![h, j, 0, 0] inb).view.loc (c : Thread nD τ) ↦[(tR ![h, j, 0, 0] inb).view.set]{fullShare} f) := by
  rw [tR_set]; rfl
omit [FloatOps F] in
theorem sP_eq (c : Dev nD) (h j f inb) : sP (F := F) c h j f = ((tS ![h, j, 0, 0] inb).view.loc (c : Thread nD τ) ↦[(tS ![h, j, 0, 0] inb).view.set]{fullShare} f) := by
  rw [tS_set]; rfl

/-! ## What lands -/

/-- Written with what the view reads of `g`, contents agree with `g` on the view. -/
theorem write_on {κ : Kind} {sp s e} {v : View sig κ sp s e} {Val : EltTy → Type} (f g : v.ty.Contents Val) (w : s.Idx → Val e)
    (hw : w = v.read Val g) : ∀ i ∈ v.set, v.write Val f w Finset.univ i = g i := by
  subst hw
  rw [View.write_read_eq_piecewise]
  exact fun i hi => Finset.piecewise_eq_of_mem _ _ _ hi

/-- The index of a one-by-one stack of tiles that a tile's index names. -/
def q4 (x : S512x256.Idx) : S1x1x512x256.Idx := fun a => match a with
  | 0 => ⟨0, Nat.one_pos⟩ | 1 => ⟨0, Nat.one_pos⟩ | 2 => ⟨(x 0).val, (x 0).isLt⟩ | 3 => ⟨(x 1).val, (x 1).isLt⟩

theorem q4_apply {Y : Type} (v : S1x1x512x256.Idx → Y) (hc) (x : S512x256.Idx) : shapeCast S512x256 v hc x = v (q4 x) := by
  refine shapeCast_apply v hc x (q4 x) ?_
  rw [Shape.rowMajor_val_four, Shape.rowMajor_val_two]
  show ((0 * 1 + 0) * 512 + (x 0).val) * 256 + (x 1).val = (x 0).val * 256 + (x 1).val
  omega

section
variable (X : Dev nD → XT F)

/-- A local copy reads what the staging buffer must hold. -/
theorem read_X (c : Dev nD) (h t : Fin 4) (inb inb') :
    (tX ![ro c 0, co c t.val h.val] inb).view.read (Elt F) (X c) = (tS ![h.val, t.val, 0, 0] inb').view.read (Elt F) (stg X c) := by
  funext x
  rw [show (tS ![h.val, t.val, 0, 0] inb').view.read (Elt F) (stg X c)
    = shapeCast S512x256 ((Memref.whole cc0_scratch2).view.readAt (Elt F) (Rect.unit (s := S4x4x512x256) ![h.val, t.val, 0, 0] ![1, 1, 512, 256] inb').toLoadRect (stg X c)) shapeCasts_S1x1x512x256_S512x256 from rfl,
    q4_apply]
  refine congrArg (X c) (Shape.idx_ext₂ ?_ ?_)
  · show ro c 0 + 1 * (x 0).val = (ro c 0 + (0 + 1 * (x 0).val)) % 4096
    have := dlt c; have h0 : (x 0).val < 512 := (x 0).isLt; unfold ro; omega
  · show co c t.val h.val + 1 * (x 1).val = (co c (t.val + 1 * 0) (h.val + 1 * 0) + (0 + 1 * (x 1).val)) % 4096
    have := dlt c; have := t.isLt; have := h.isLt; have h1 : (x 1).val < 256 := (x 1).isLt; unfold co; omega

/-- The sender's tile is what the receiver expects, -/
theorem yb_eq (c : Dev nD) (h : ℕ) (j : Fin 3) : ∀ i ∈ bSet h j.val, ybS X c i = ybR X (yTo j c) i := by
  intro i hi
  have e : (i 1).val = j.val := (Finset.mem_filter.mp hi).2.2
  show cvt X c (i 1).val _ _ _ = cvt X (yFr (i 1) (yTo j c)) (i 1).val _ _ _
  rw [show (i 1) = j from Fin.ext e, yFr_yTo]

/-! ## Ghost state -/

variable (K : Dev nD × Cell → ℕ)

/-- What every device knows: every semaphore's invariant, that every barrier is open, and the levels. -/
def recs : sProp 𝕄 :=
  iprop((bigSep Finset.univ fun ck : Dev nD × Cell => cellInv ER (Rd X) (K ck) (gcell ck.1 ck.2))
    ∗ (bigSep Finset.univ fun c : Dev nD => reached ER (gcell c .bar) 0) ∗ levAts L lv)
instance recs_persistent : Persistent (recs X K) := by unfold recs; infer_instance

theorem recs_inv (c : Dev nD) (k : Cell) : recs X K ⊢ cellInv ER (Rd X) (K (c, k)) (gcell c k) := by
  unfold recs
  iintro ⟨H, -, -⟩
  iapply (show (bigSep Finset.univ fun ck : Dev nD × Cell => (cellInv ER (Rd X) (K ck) (gcell ck.1 ck.2) : sProp 𝕄)) ⊢ cellInv ER (Rd X) (K (c, k)) (gcell c k) from
    bigSep_elim (Φ := fun ck : Dev nD × Cell => (cellInv ER (Rd X) (K ck) (gcell ck.1 ck.2) : sProp 𝕄)) (Finset.mem_univ (c, k))) $$ H
theorem recs_bar (c : Dev nD) : recs X K ⊢ reached ER (gcell c .bar) 0 := by
  unfold recs
  iintro ⟨-, H, -⟩
  iapply (show (bigSep Finset.univ fun c : Dev nD => (reached ER (gcell c .bar) 0 : sProp 𝕄)) ⊢ reached ER (gcell c .bar) 0 from
    bigSep_elim (Φ := fun c : Dev nD => (reached ER (gcell c .bar) 0 : sProp 𝕄)) (Finset.mem_univ c)) $$ H
theorem recs_lev : recs X K ⊢ levAts L lv := by
  unfold recs
  iintro ⟨-, -, H⟩
  iexact H

/-- What a device owes, whatever it has waited on. -/
def owesL (c : Dev nD) (l : List Pay) : sProp 𝕄 := iprop(∃ W, owes (c : Thread nD τ) (owe c l) W)
def opn (c : Dev nD) (k : Cell) : sProp 𝕄 := atPos ER (gcell c k) 0 ∅ 0
def don (c : Dev nD) (k : Cell) : sProp 𝕄 := atPos ER (gcell c k) 1 ∅ 0
def crd (c : Dev nD) (k : Cell) : sProp 𝕄 := cred (tallyAt (gcell c k) () (amt k))
def tok (c : Dev nD) (k : Cell) (d : Fin 7) : sProp 𝕄 := dutyTok ER (gcell c k) 0 d
def rch (c : Dev nD) (k : Cell) : sProp 𝕄 := reached ER (gcell c k) 0
instance rch_persistent (c : Dev nD) (k : Cell) : Persistent (rch (F := F) c k) := by unfold rch; infer_instance

/-! ## Waits -/

/-- A wait on a semaphore below everything owed hands over its payload. -/
theorem wp_waitC (c : Dev nD) (k : Cell) (hk : k ≠ .bar) (l : List Pay) (hl : ∀ p ∈ l, clv k < clv p.cell)
    {sp sp' : Space} {s : Shape} {e : EltTy} {sem : DmaSem sig} {src : Memref sig .tc sp s e} {dst : Memref sig .tc sp' s e}
    {h1 : src.view.WordExact} {h2 : dst.view.WordExact} {kk : PUnit → Prog (TpuEff nD τ sig (Elt F) Λ₀ .tc) PUnit} {Q : PUnit → sProp 𝕄}
    (hs : SemLoc.dma sem = csem k) (ha : dst.view.dmaCredit = amt k) :
    iprop(recs X K ∗ owesL c l ∗ opn c k ∗ crd c k)
      ⊢ iprop(((owesL c l ∗ don c k ∗ pay X c k 0) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sem src dst h1 h2) kk) Q) := by
  unfold owesL
  iintro ⟨#Hr, ⟨%W, HO⟩, Hat, Hc⟩ Hk
  iapply (Rounds.wp_wait_rest_token 𝒱₀ ER (Rd X) (c : Thread nD τ) none (κ := K (c, k))
    (wpE_waitDma2_eq 𝒱₀ (c : Thread nD τ) none Set.univ) (Set.mem_univ _) () (O := owe c l) (W := W) (R := 0) (m := 0) (T := ∅)
    (by rw [Nat.zero_add, ha, hs]; exact (Rd_expect X c hk).symm)) $$ [HO Hat Hc]
  · rw [hs, ha]
    isplitr; · iapply (recs_inv X K c k); iexact Hr
    isplitl [Hc]; · unfold crd; iexact Hc
    isplitl [HO]; · iexact HO
    isplitr
    · unfold recs
      icases Hr with ⟨-, -, #Hlev⟩
      iapply (mayWait c (csem k) l fun p hp => lt_of_eq_of_lt (lv_gcell c k ()) (hl p hp)); iexact Hlev
    unfold opn; iexact Hat
  iintro ⟨HO, Hat, -, Hp⟩
  iapply Hk
  isplitl [HO]; · iexists _; iexact HO
  rw [hs]
  isplitl [Hat]; · unfold don; iexact Hat
  iapply (Entails.of_eq (Rd_rest X c hk)); iexact Hp

/-! ## Local copies -/

/-- Before the copy for peer `t` of chunk `h`, -/
def Cp0 (c : Dev nD) (h t : Fin 4) : sProp 𝕄 :=
  iprop(tok c (.cp h t) 0 ∗ rch c (.cp h t) ∗ opn c (.cp h t) ∗ (∃ f, sP c h.val t.val f) ∗ xP c (ro c 0) (co c t.val h.val) (X c))
/-- in flight, -/
def Cp1 (c : Dev nD) (h t : Fin 4) : sProp 𝕄 := iprop(crd c (.cp h t) ∗ opn c (.cp h t))
/-- and after. -/
def Cp2 (c : Dev nD) (h t : Fin 4) : sProp 𝕄 := iprop(don c (.cp h t) ∗ cpP X c h t)

theorem step_copy (c : Dev nD) (h t : Fin 4) (a b : ℕ) (ha : a = h.val) (hb : b = t.val) (o : Fin 2 → ℕ) (ho : o = ![ro c 0, co c t.val h.val])
    {i0 i1 i2 h1 h2 h3} {kk : PUnit → Prog (TpuEff nD τ sig (Elt F) Λ₀ .tc) PUnit} {Q : PUnit → sProp 𝕄} :
    iprop(recs X K ∗ Cp0 X c h t)
      ⊢ iprop((Cp1 c h t -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma (tX o i0) (.here (tS ![a, b, 0, 0] i1)) (.dma (sem4 cc0_scratch3 a b i2)) h1 h2 h3) kk) Q) := by
  subst ha hb ho
  unfold Cp0 Cp1
  iintro ⟨#Hr, Ht, Hre, Hat, ⟨%f, Hs⟩, Hx⟩ Hk
  iapply (Rounds.wp_copy_pointsTo 𝒱₀ ER (Rd X) (c : Thread nD τ) none (κ := K (c, .cp h t)) (r := 0) (d := 0)
    (src := tX ![ro c 0, co c t.val h.val] i0) (dst := tS ![h.val, t.val, 0, 0] i1)
    (sem := .dma (sem4 cc0_scratch3 h.val t.val i2)) (q := fullShare) (fs := X c) (fd := f)
    (by rw [sem_cp]; erw [Rd_duties]; exact Finset.mem_singleton_self _) () NS rfl
    (by rw [sem_cp]; exact Rd_amount X c (.cp h t) 0)
    (by
      rw [sem_cp]
      refine BIBase.Entails.trans ?_ (Entails.of_eq (Rd_payload X c (.cp h t) 0).symm)
      show _ ⊢ cpP X c h t
      unfold cpP
      rw [sP_eq c h.val t.val (stg X c) i1, xP_eq c _ _ (X c) i0]
      refine sep_mono_left (Entails.of_eq (pointsTo_congr (write_on _ _ _ (read_X X c h t i0 i1)))))) $$ [Ht Hre Hs Hx]
  · rw [sem_cp]
    isplitr; · iapply (recs_inv X K c (.cp h t)); iexact Hr
    isplitl [Hx]; · iapply (Entails.of_eq (xP_eq c _ _ (X c) i0)); iexact Hx
    isplitl [Hs]; · iapply (Entails.of_eq (sP_eq c _ _ f i1)); iexact Hs
    isplitl [Ht]; · unfold tok; iexact Ht
    unfold rch; iexact Hre
  rw [sem_cp]
  iintro Hc
  iapply Hk
  isplitl [Hc]; · unfold crd; iexact Hc
  iexact Hat

/-! ## Remote copies -/

/-- What a device holds for the copy at site `s` from the start, besides where it lands: both ends' rights, and
    the credit to wait for its own arrival. -/
def Sx (c : Dev nD) (s : Site) : sProp 𝕄 :=
  iprop(tok c (.snd s) 0 ∗ rch c (.snd s) ∗ opn c (.snd s) ∗ opn c (.rcv s) ∗ crd c (.rcv s) ∗ tok (s.to c) (.rcv s) 0)
/-- Before the copy is issued, -/
def S0 (c : Dev nD) (s : Site) : sProp 𝕄 := iprop(Sx c s ∗ landAny (s.to c) s)
/-- after it is issued, -/
def S1 (c : Dev nD) (s : Site) : sProp 𝕄 := iprop(crd c (.snd s) ∗ opn c (.snd s) ∗ opn c (.rcv s) ∗ crd c (.rcv s))
/-- after its arrival is waited for, -/
def S2 (c : Dev nD) (s : Site) : sProp 𝕄 := iprop(crd c (.snd s) ∗ opn c (.snd s) ∗ don c (.rcv s))
/-- and after both ends are. -/
def S3 (c : Dev nD) (s : Site) : sProp 𝕄 := iprop(don c (.snd s) ∗ don c (.rcv s))

theorem wp_sendS (c : Dev nD) (s : Site) (l : List Pay)
    {sp sp' : Space} {sh : Shape} {e : EltTy} {sS sem : SemLoc sig} {src : Memref sig .tc sp sh e} {dst : Memref sig .tc sp' sh e}
    {hsc h1 h2 h3} {kk : PUnit → Prog (TpuEff nD τ sig (Elt F) Λ₀ .tc) PUnit} {Q : PUnit → sProp 𝕄}
    (hsS : sS = csem (.snd s)) (hsem : sem = csem (.rcv s)) (hN : dst.view.amount sem = NB)
    (q : PosShare TreeShare) (fs : Buf (Elt F) (src.view.loc (c : Thread nD τ))) (fd : Buf (Elt F) (dst.view.loc (s.to c : Thread nD τ)))
    (hp1 : (src.view.loc (c : Thread nD τ) ↦[src.view.set]{q} fs : sProp 𝕄) ⊢ srcP X c s)
    (hp2 : (dst.view.loc (s.to c : Thread nD τ) ↦[dst.view.set]{fullShare} (dst.view.write (Elt F) fd (src.view.read (Elt F) fs) Finset.univ) : sProp 𝕄) ⊢ landed X (s.to c) s) :
    iprop(recs X K ∗ Sx c s ∗ rch (s.to c) (.rcv s) ∗ (src.view.loc (c : Thread nD τ) ↦[src.view.set]{q} fs)
        ∗ (dst.view.loc (s.to c : Thread nD τ) ↦[dst.view.set]{fullShare} fd) ∗ owesL c (.at s :: l))
      ⊢ iprop(((owesL c l ∗ S1 c s) -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma src (.remote (Dev.tc (s.to c)) dst sS hsc) sem h1 h2 h3) kk) Q) := by
  subst hsS hsem
  unfold Sx S1 owesL
  iintro ⟨#Hr, ⟨Ht1, Hr1, Ha1, Ha2, Hc2, Ht2⟩, Hr2, Hs, Hd, ⟨%W, HO⟩⟩ Hk
  iapply (Rounds.wp_send_pointsTo 𝒱₀ ER (Rd X) (c : Thread nD τ) none (c' := (s.to c : Thread nD τ)) (src := src) (dst := dst)
    (sS := csem (.snd s)) (sem := csem (.rcv s)) (κ₁ := K (c, .snd s)) (κ₂ := K (s.to c, .rcv s))
    (r₁ := 0) (r₂ := 0) (d₁ := 0) (d₂ := 0) (q := q) (fs := fs) (fd := fd) (O₀ := owe c (.at s :: l)) (W := W)
    (by have := Rd_duties X c (.snd s); rw [this]; exact Finset.mem_singleton_self _)
    (by have := Rd_duties X (s.to c) (.rcv s); rw [this]; exact Finset.mem_singleton_self _) () () NB hN
    (Rd_amount X c (.snd s) 0) (Rd_amount X (s.to c) (.rcv s) 0) (owe c l) rfl
    (hp1.trans (Entails.of_eq (Rd_payload X c (.snd s) 0).symm)) (hp2.trans (Entails.of_eq (Rd_payload X (s.to c) (.rcv s) 0).symm)))
    $$ [Ht1 Hr1 Ht2 Hr2 Hs Hd HO]
  · isplitr; · iapply (recs_inv X K c (.snd s)); iexact Hr
    isplitr; · iapply (recs_inv X K (s.to c) (.rcv s)); iexact Hr
    isplitl [Hs]; · iexact Hs
    isplitl [Hd]; · iexact Hd
    isplitl [HO]; · iexact HO
    isplitl [Ht1]; · unfold tok; iexact Ht1
    isplitl [Hr1]; · unfold rch; iexact Hr1
    isplitl [Ht2]; · unfold tok; iexact Ht2
    unfold rch; iexact Hr2
  iintro ⟨Hc, HO⟩
  iapply Hk
  isplitl [HO]; · iexists W; iexact HO
  isplitl [Hc]; · unfold crd; iexact Hc
  isplitl [Ha1]; · iexact Ha1
  isplitl [Ha2]; · iexact Ha2
  iexact Hc2

theorem rd_y (c : Dev nD) (h j : ℕ) (i0) (i1) : (tB ![h, j, 0, 0] i0).view.read (Elt F) (ybS X c) = (tR ![h, j, 0, 0] i1).view.read (Elt F) (ybS X c) := rfl
theorem land_y (c : Dev nD) (h : ℕ) (j : Fin 3) (i0) (i1) (f : BT F) : ∀ i ∈ (tR ![h, j.val, 0, 0] i1).view.set,
    (tR ![h, j.val, 0, 0] i1).view.write (Elt F) f ((tB ![h, j.val, 0, 0] i0).view.read (Elt F) (ybS X c)) Finset.univ i = ybR X (yTo j c) i := by
  intro i hi
  rw [rd_y X c h j.val i0 i1, write_on f (ybS X c) _ rfl i hi]
  rw [tR_set] at hi
  exact yb_eq X c h j i hi
omit [FloatOps F] in
theorem land_o (o : Fin 2 → ℕ) (i0) (i1) (f g g' : OT F) (hg : g' = g) : ∀ i ∈ (tO o i1).view.set,
    (tO o i1).view.write (Elt F) f ((tO o i0).view.read (Elt F) g) Finset.univ i = g' i := by
  intro i hi
  rw [hg, write_on f g _ rfl i hi]
theorem got_y (c : Dev nD) (h : Fin 4) (j : Fin 3) (i0) (i1) (f : BT F) :
    ((tR ![h.val, j.val, 0, 0] i1).view.loc (yTo j c : Thread nD τ) ↦[(tR ![h.val, j.val, 0, 0] i1).view.set]{fullShare}
      ((tR ![h.val, j.val, 0, 0] i1).view.write (Elt F) f ((tB ![h.val, j.val, 0, 0] i0).view.read (Elt F) (ybS X c)) Finset.univ) : sProp 𝕄)
    ⊢ landed X (yTo j c) (.y h j) := by
  rw [pointsTo_congr (land_y X c h.val j i0 i1 f)]
  exact Entails.of_eq (rP_eq (yTo j c) h.val j.val (ybR X (yTo j c)) i1).symm
theorem got_o (c c' : Dev nD) (r h : ℕ) (i0) (i1) (f : OT F) (e : outF X c' = outF X c) :
    ((tO ![r, 256 * h] i1).view.loc (c' : Thread nD τ) ↦[(tO ![r, 256 * h] i1).view.set]{fullShare}
      ((tO ![r, 256 * h] i1).view.write (Elt F) f ((tO ![r, 256 * h] i0).view.read (Elt F) (outF X c)) Finset.univ) : sProp 𝕄)
    ⊢ oP c' fullShare r h (outF X c') := by
  rw [pointsTo_congr (land_o _ i0 i1 f (outF X c) (outF X c') e)]
  exact Entails.of_eq (oP_eq c' fullShare r h (outF X c') i1).symm

/-- A tile sent along `y`. -/
theorem step_y (c : Dev nD) (h : Fin 4) (j : Fin 3) (l : List Pay) (a b : ℕ) (ha : a = h.val) (hb : b = j.val) (c' : Dev nD) (hc' : c' = yTo j c)
    {i0 i1 i2 i3 hsc h1 h2 h3} {kk : PUnit → Prog (TpuEff nD τ sig (Elt F) Λ₀ .tc) PUnit} {Q : PUnit → sProp 𝕄} :
    iprop(recs X K ∗ S0 c (.y h j) ∗ srcP X c (.y h j) ∗ owesL c (.at (.y h j) :: l))
      ⊢ iprop(((owesL c l ∗ S1 c (.y h j)) -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma (tB ![a, b, 0, 0] i0) (.remote (Dev.tc c') (tR ![a, b, 0, 0] i1) (.dma (sem3 cc0_scratch4 a b i2)) hsc) (.dma (sem3 cc0_scratch5 a b i3)) h1 h2 h3) kk) Q) := by
  subst ha hb hc'
  unfold S0 landAny
  iintro ⟨#Hr, ⟨Hx, ⟨%f, Hd⟩, Hre⟩, Hs, HO⟩ Hk
  iapply (wp_sendS X K c (.y h j) l (src := tB ![h.val, j.val, 0, 0] i0) (dst := tR ![h.val, j.val, 0, 0] i1)
    (sem_snd_y h j i2) (sem_rcv_y h j i3) rfl fullShare (ybS X c) f
    (Entails.of_eq (bP_eq c h.val j.val (ybS X c) i0).symm)
    (got_y X c h j i0 i1 f)) $$ [Hx Hd Hre Hs HO]
  · isplitr; · iexact Hr
    isplitl [Hx]; · iexact Hx
    isplitl [Hre]; · unfold rch; iexact Hre
    isplitl [Hs]; · unfold srcP; iapply (Entails.of_eq (bP_eq c h.val j.val (ybS X c) i0)); iexact Hs
    isplitl [Hd]; · iapply (Entails.of_eq (rP_eq (yTo j c) h.val j.val f i1)); iexact Hd
    iexact HO
  iexact Hk

theorem ro_z (j : Fin 3) (c : Dev nD) : ro (zTo j c) (j.val + 1) = ro c 0 := by
  have := dlt c; have := j.isLt; unfold ro zTo; dsimp only; omega

/-- A finished tile sent along `z`. -/
theorem step_z (c : Dev nD) (h : Fin 4) (j : Fin 3) (l : List Pay) (a b : ℕ) (ha : a = h.val) (hb : b = j.val) (o : Fin 2 → ℕ) (ho : o = ![ro c 0, 256 * h.val])
    (c' : Dev nD) (hc' : c' = zTo j c)
    {i0 i1 i2 i3 hsc h1 h2 h3} {kk : PUnit → Prog (TpuEff nD τ sig (Elt F) Λ₀ .tc) PUnit} {Q : PUnit → sProp 𝕄} :
    iprop(recs X K ∗ S0 c (.z h j) ∗ srcP X c (.z h j) ∗ owesL c (.at (.z h j) :: l))
      ⊢ iprop(((owesL c l ∗ S1 c (.z h j)) -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma (tO o i0) (.remote (Dev.tc c') (tO o i1) (.dma (sem3 cc0_scratch6 a b i2)) hsc) (.dma (sem3 cc0_scratch7 a b i3)) h1 h2 h3) kk) Q) := by
  subst ha hb hc' ho
  unfold S0 landAny
  iintro ⟨#Hr, ⟨Hx, ⟨%f, Hd⟩, Hre⟩, Hs, HO⟩ Hk
  have e : ∀ f, oP (F := F) (zTo j c) fullShare (ro (zTo j c) (j.val + 1)) h.val f = oP (zTo j c) fullShare (ro c 0) h.val f := fun f => by rw [ro_z]
  iapply (wp_sendS X K c (.z h j) l (src := tO ![ro c 0, 256 * h.val] i0) (dst := tO ![ro c 0, 256 * h.val] i1)
    (sem_snd_z h j i2) (sem_rcv_z h j i3) rfl (shr j.succ) (outF X c) f
    (Entails.of_eq (oP_eq c (shr j.succ) (ro c 0) h.val (outF X c) i0).symm)
    ((got_o X c (zTo j c) (ro c 0) h.val i0 i1 f (outF_z X j c)).trans (Entails.of_eq (e _).symm))) $$ [Hx Hd Hre Hs HO]
  · isplitr; · iexact Hr
    isplitl [Hx]; · iexact Hx
    isplitl [Hre]; · unfold rch; iexact Hre
    isplitl [Hs]; · unfold srcP; iapply (Entails.of_eq (oP_eq c (shr j.succ) (ro c 0) h.val (outF X c) i0)); iexact Hs
    isplitl [Hd]; · iapply (Entails.of_eq ((e f).trans (oP_eq (zTo j c) fullShare (ro c 0) h.val f i1))); iexact Hd
    iexact HO
  iexact Hk

/-- A finished tile sent across `x`. -/
theorem step_x (c : Dev nD) (h t : Fin 4) (l : List Pay) (a b : ℕ) (ha : a = h.val) (hb : b = t.val) (o : Fin 2 → ℕ) (ho : o = ![ro c t.val, 256 * h.val])
    (c' : Dev nD) (hc' : c' = xTo c)
    {i0 i1 i2 i3 hsc h1 h2 h3} {kk : PUnit → Prog (TpuEff nD τ sig (Elt F) Λ₀ .tc) PUnit} {Q : PUnit → sProp 𝕄} :
    iprop(recs X K ∗ S0 c (.x h t) ∗ srcP X c (.x h t) ∗ owesL c (.at (.x h t) :: l))
      ⊢ iprop(((owesL c l ∗ S1 c (.x h t)) -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma (tO o i0) (.remote (Dev.tc c') (tO o i1) (.dma (sem4 cc0_scratch8 a b i2)) hsc) (.dma (sem4 cc0_scratch9 a b i3)) h1 h2 h3) kk) Q) := by
  subst ha hb hc' ho
  unfold S0 landAny
  iintro ⟨#Hr, ⟨Hx, ⟨%f, Hd⟩, Hre⟩, Hs, HO⟩ Hk
  have e : ∀ f, oP (F := F) (xTo c) fullShare (ro (xTo (xTo c)) t.val) h.val f = oP (xTo c) fullShare (ro c t.val) h.val f := fun f => by rw [xTo_xTo]
  iapply (wp_sendS X K c (.x h t) l (src := tO ![ro c t.val, 256 * h.val] i0) (dst := tO ![ro c t.val, 256 * h.val] i1)
    (sem_snd_x h t i2) (sem_rcv_x h t i3) rfl (if t.val = 0 then shr 0 else fullShare) (outF X c) f
    (Entails.of_eq (oP_eq c _ (ro c t.val) h.val (outF X c) i0).symm)
    ((got_o X c (xTo c) (ro c t.val) h.val i0 i1 f (outF_x X c)).trans (Entails.of_eq (e _).symm))) $$ [Hx Hd Hre Hs HO]
  · isplitr; · iexact Hr
    isplitl [Hx]; · iexact Hx
    isplitl [Hre]; · unfold rch; iexact Hre
    isplitl [Hs]; · unfold srcP; iapply (Entails.of_eq (oP_eq c _ (ro c t.val) h.val (outF X c) i0)); iexact Hs
    isplitl [Hd]; · iapply (Entails.of_eq ((e f).trans (oP_eq (xTo c) fullShare (ro c t.val) h.val f i1))); iexact Hd
    iexact HO
  iexact Hk

end

end Cert.KernelIdeal.Proof

end
-- ==== Proof.Chunks.lean ====
/-
# `Chunks`: the loop bodies of the kernel, one lemma for each kind

Each lemma takes the program from one point to the next at a symbolic device and chunk: rounding a
staged tile and sending it along `y`; waiting for both ends of such a send; adding the four copies and
sending the sum on; forwarding an arrived tile across `x`; and the last waits.
-/
module

public import proofs.«01_k».proof.Proof.Steps
public import Idealize.ShloMosaic.Lib.Pointwise.ElementwiseCore

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A program of the kernel's, and the weakest precondition at device `c`. -/
abbrev Pg (F : FTy → Type) (A : Type) : Type 1 := Prog (TpuEff nD τ sig (Elt F) Λ₀ .tc) A
abbrev Wp (c : Dev nD) (p : Pg F PUnit) (Q : PUnit → sProp 𝕄) : sProp 𝕄 := wp frame (wpE (defs₀ (F := F)) 𝒱₀ (c : Thread nD τ) none) Set.univ p Q

abbrev rB (o : Fin 4 → ℕ) (inb : ∀ a, o a + (![1, 1, 512, 256] : Fin 4 → ℕ) a ≤ S4x3x512x256.size a) : Rect S4x3x512x256 := Rect.unit (s := S4x3x512x256) o ![1, 1, 512, 256] inb
abbrev rS (o : Fin 4 → ℕ) (inb : ∀ a, o a + (![1, 1, 512, 256] : Fin 4 → ℕ) a ≤ S4x4x512x256.size a) : Rect S4x4x512x256 := Rect.unit (s := S4x4x512x256) o ![1, 1, 512, 256] inb
abbrev rO (o : Fin 2 → ℕ) (inb : ∀ a, o a + (![512, 256] : Fin 2 → ℕ) a ≤ S4096x1024.size a) : Rect S4096x1024 := Rect.unit (s := S4096x1024) o ![512, 256] inb

/-! ## Loads and stores of a piece owned -/

theorem load_s (c : Dev nD) (h t : ℕ) (f : ST F) {i0 hl} {kk : (Vec F S1x1x512x256 .f32) → Pg F PUnit} {Q : PUnit → sProp 𝕄} :
    sP c h t f ⊢ iprop((sP c h t f -∗ Wp c (kk ((Memref.whole cc0_scratch2).view.readAt (Elt F) (rS ![h, t, 0, 0] i0).toLoadRect f)) Q)
      -∗ Wp c (Prog.op (.load (Memref.whole cc0_scratch2) (rS ![h, t, 0, 0] i0).toLoadRect hl) kk) Q) := by
  unfold sP
  exact wp_load 𝒱₀ (c : Thread nD τ) none Set.univ (m := Memref.whole cc0_scratch2) (by
    rw [← sRect_set h t i0]; exact fun i hi => by obtain ⟨x, hx, rfl⟩ := Finset.mem_map.mp hi; exact hx)
theorem load_b (c : Dev nD) (h j : ℕ) (f : BT F) {i0 hl} {kk : (Vec F S1x1x512x256 .bf16) → Pg F PUnit} {Q : PUnit → sProp 𝕄} :
    bP c h j f ⊢ iprop((bP c h j f -∗ Wp c (kk ((Memref.whole cc0_scratch0).view.readAt (Elt F) (rB ![h, j, 0, 0] i0).toLoadRect f)) Q)
      -∗ Wp c (Prog.op (.load (Memref.whole cc0_scratch0) (rB ![h, j, 0, 0] i0).toLoadRect hl) kk) Q) := by
  unfold bP
  exact wp_load 𝒱₀ (c : Thread nD τ) none Set.univ (m := Memref.whole cc0_scratch0) (by
    rw [← bRect_set h j i0]; exact fun i hi => by obtain ⟨x, hx, rfl⟩ := Finset.mem_map.mp hi; exact hx)
theorem load_r (c : Dev nD) (h j : ℕ) (f : BT F) {i0 hl} {kk : (Vec F S1x1x512x256 .bf16) → Pg F PUnit} {Q : PUnit → sProp 𝕄} :
    rP c h j f ⊢ iprop((rP c h j f -∗ Wp c (kk ((Memref.whole cc0_scratch1).view.readAt (Elt F) (rB ![h, j, 0, 0] i0).toLoadRect f)) Q)
      -∗ Wp c (Prog.op (.load (Memref.whole cc0_scratch1) (rB ![h, j, 0, 0] i0).toLoadRect hl) kk) Q) := by
  unfold rP
  exact wp_load 𝒱₀ (c : Thread nD τ) none Set.univ (m := Memref.whole cc0_scratch1) (by
    rw [← bRect_set h j i0]; exact fun i hi => by obtain ⟨x, hx, rfl⟩ := Finset.mem_map.mp hi; exact hx)
theorem load_o (c : Dev nD) (q) (r h : ℕ) (f : OT F) {i0 hl} {kk : (Vec F S512x256 .bf16) → Pg F PUnit} {Q : PUnit → sProp 𝕄} :
    oP c q r h f ⊢ iprop((oP c q r h f -∗ Wp c (kk ((Memref.whole cc0_stg0_0).view.readAt (Elt F) (rO ![r, 256 * h] i0).toLoadRect f)) Q)
      -∗ Wp c (Prog.op (.load (Memref.whole cc0_stg0_0) (rO ![r, 256 * h] i0).toLoadRect hl) kk) Q) := by
  unfold oP
  exact wp_load 𝒱₀ (c : Thread nD τ) none Set.univ (m := Memref.whole cc0_stg0_0) (by
    rw [← oRect_set r (256 * h) i0]; exact fun i hi => by obtain ⟨x, hx, rfl⟩ := Finset.mem_map.mp hi; exact hx)

theorem store_b (c : Dev nD) (h j : ℕ) (f g : BT F) {i0 hx hm} (w : Vec F S1x1x512x256 .bf16)
    (hw : w = ((Memref.whole cc0_scratch0).access (rB ![h, j, 0, 0] i0)).read (Elt F) g) {kk : PUnit → Pg F PUnit} {Q : PUnit → sProp 𝕄} :
    bP c h j f ⊢ iprop((bP c h j g -∗ Wp c (kk ⟨⟩) Q)
      -∗ Wp c (Prog.op (.store (Memref.whole cc0_scratch0) (rB ![h, j, 0, 0] i0) w Finset.univ hx hm) kk) Q) := by
  have es : ((Memref.whole cc0_scratch0).access (rB ![h, j, 0, 0] i0)).set = bSet h j := (View.set_slice_whole _ _).trans (bRect_set h j i0)
  have e : bP c h j g = (((Memref.whole cc0_scratch0).access (rB ![h, j, 0, 0] i0)).loc (c : Thread nD τ) ↦[bSet h j]{fullShare} (((Memref.whole cc0_scratch0).access (rB ![h, j, 0, 0] i0)).write (Elt F) f w Finset.univ) : sProp 𝕄) := by
    refine (pointsTo_congr fun i hi => ?_).symm
    rw [← es] at hi
    rw [write_on (v := (Memref.whole cc0_scratch0).access (rB ![h, j, 0, 0] i0)) f g w hw i hi]
  rw [e]
  unfold bP
  exact wp_store 𝒱₀ (c : Thread nD τ) none Set.univ (m := Memref.whole cc0_scratch0) (r := rB ![h, j, 0, 0] i0) (Mk := Finset.univ) (by rw [← es]; exact Finset.Subset.refl _)
theorem store_o (c : Dev nD) (r h : ℕ) (f g : OT F) {i0 hx hm} (w : Vec F S512x256 .bf16)
    (hw : w = ((Memref.whole cc0_stg0_0).access (rO ![r, 256 * h] i0)).read (Elt F) g) {kk : PUnit → Pg F PUnit} {Q : PUnit → sProp 𝕄} :
    oP c fullShare r h f ⊢ iprop((oP c fullShare r h g -∗ Wp c (kk ⟨⟩) Q)
      -∗ Wp c (Prog.op (.store (Memref.whole cc0_stg0_0) (rO ![r, 256 * h] i0) w Finset.univ hx hm) kk) Q) := by
  have es : ((Memref.whole cc0_stg0_0).access (rO ![r, 256 * h] i0)).set = oSet r (256 * h) := (View.set_slice_whole _ _).trans (oRect_set r (256 * h) i0)
  have e : oP c fullShare r h g = (((Memref.whole cc0_stg0_0).access (rO ![r, 256 * h] i0)).loc (c : Thread nD τ) ↦[oSet r (256 * h)]{fullShare} (((Memref.whole cc0_stg0_0).access (rO ![r, 256 * h] i0)).write (Elt F) f w Finset.univ) : sProp 𝕄) := by
    refine (pointsTo_congr fun i hi => ?_).symm
    rw [← es] at hi
    rw [write_on (v := (Memref.whole cc0_stg0_0).access (rO ![r, 256 * h] i0)) f g w hw i hi]
  rw [e]
  unfold oP
  exact wp_store 𝒱₀ (c : Thread nD τ) none Set.univ (m := Memref.whole cc0_stg0_0) (r := rO ![r, 256 * h] i0) (Mk := Finset.univ) (by rw [← es]; exact Finset.Subset.refl _)

/-! ## What is stored -/

section
variable (X : Dev nD → XT F)

/-- A staged tile rounded, as the program writes it; -/
def rnd (v : Vec F S1x1x512x256 .f32) : Vec F S1x1x512x256 .bf16 :=
  shapeCast S1x1x512x256 (truncf .bf16 (shapeCast S512x256 v shapeCasts_S1x1x512x256_S512x256) bitsLt_bf16_f32 : FVec F S512x256 .bf16) shapeCasts_S512x256_S1x1x512x256
/-- a staged tile rounded and three tiles received added to it. -/
def add4 (v : Vec F S1x1x512x256 .f32) (v0 v1 v2 : Vec F S1x1x512x256 .bf16) : FVec F S512x256 .bf16 :=
  addf (addf (addf (truncf .bf16 (shapeCast S512x256 v shapeCasts_S1x1x512x256_S512x256) bitsLt_bf16_f32) (shapeCast S512x256 v0 shapeCasts_S1x1x512x256_S512x256 : FVec F S512x256 .bf16))
    (shapeCast S512x256 v1 shapeCasts_S1x1x512x256_S512x256 : FVec F S512x256 .bf16)) (shapeCast S512x256 v2 shapeCasts_S1x1x512x256_S512x256 : FVec F S512x256 .bf16)

theorem rnd_stg (c : Dev nD) (h j : ℕ) (i0 i1) :
    rnd ((Memref.whole cc0_scratch2).view.readAt (Elt F) (rS ![h, j, 0, 0] i0).toLoadRect (stg X c))
      = ((Memref.whole cc0_scratch0).access (rB ![h, j, 0, 0] i1)).read (Elt F) (ybS X c) := by
  have e : ∀ v : Vec F S1x1x512x256 .f32, rnd v = fun x => FloatOps.truncf .bf16 bitsLt_bf16_f32 (v x) := by
    intro v
    funext x
    show FloatOps.truncf .bf16 bitsLt_bf16_f32 (shapeCast S1x1x512x256 (shapeCast S512x256 v _) _ x) = _
    rw [shapeCast_shapeCast]
  rw [e]
  rfl

theorem add4_out (c : Dev nD) (h : Fin 4) (i0 i1 i2 i3 i4) :
    add4 ((Memref.whole cc0_scratch2).view.readAt (Elt F) (rS ![h.val, 3, 0, 0] i0).toLoadRect (stg X c))
        ((Memref.whole cc0_scratch1).view.readAt (Elt F) (rB ![h.val, 0, 0, 0] i1).toLoadRect (ybR X c))
        ((Memref.whole cc0_scratch1).view.readAt (Elt F) (rB ![h.val, 1, 0, 0] i2).toLoadRect (ybR X c))
        ((Memref.whole cc0_scratch1).view.readAt (Elt F) (rB ![h.val, 2, 0, 0] i3).toLoadRect (ybR X c))
      = ((Memref.whole cc0_stg0_0).access (rO ![ro c 0, 256 * h.val] i4)).read (Elt F) (outF X c) := by
  funext x
  unfold add4
  rw [addf_apply, addf_apply, addf_apply, truncf_apply, q4_apply, q4_apply, q4_apply, q4_apply]
  have h0 : (x 0).val < 512 := (x 0).isLt
  have h1 : (x 1).val < 256 := (x 1).isLt
  have hc := dlt c
  have hh := h.isLt
  have eo : owner c (ro c 0 + 1 * (x 0).val) = c := by
    have q1 : (ro c 0 + 1 * (x 0).val) / 512 = 2 * (c.val % 4) + c.val / 16 := by unfold ro; omega
    have q2 : (ro c 0 + 1 * (x 0).val) / 1024 = c.val % 4 := by unfold ro; omega
    apply Fin.ext; unfold owner; dsimp only
    rw [q1, q2, show (2 * (c.val % 4) + c.val / 16) % 2 = c.val / 16 by omega, Nat.mod_mod]; omega
  have eh : (256 * h.val + 1 * (x 1).val) / 256 = h.val := by omega
  have ea : (ro c 0 + 1 * (x 0).val) % 512 = 0 + 1 * (x 0).val := by unfold ro; omega
  have eb : (256 * h.val + 1 * (x 1).val) % 256 = 0 + 1 * (x 1).val := by omega
  refine Eq.trans ?_ (show tot X c h.val (0 + 1 * (x 0).val) (0 + 1 * (x 1).val)
    = tot X (owner c (ro c 0 + 1 * (x 0).val)) ((256 * h.val + 1 * (x 1).val) / 256) ((ro c 0 + 1 * (x 0).val) % 512) ((256 * h.val + 1 * (x 1).val) % 256) by rw [eo, eh, ea, eb])
  rfl

/-! ## The pieces of the loop -/

theorem clv_pay (p : Pay) : 0 < clv p.cell := by
  cases p with
  | bar d => exact Nat.one_pos
  | «at» s => exact (show 0 < 2 + sends.idxOf s by omega)

/-- A set of elements, in four shares. -/
theorem shares4 {ℓ : Loc nD τ sig} (I : Finset (Idx ℓ)) (f : Buf (Elt F) ℓ) :
    (ℓ ↦[I]{fullShare} f : sProp 𝕄)
      = iprop((ℓ ↦[I]{shr 0} f) ∗ (ℓ ↦[I]{shr 1} f) ∗ (ℓ ↦[I]{shr 2} f) ∗ (ℓ ↦[I]{shr 3} f)) :=
  (pointsTo_piecesOf I f (o := 4) (by decide) fullShare).trans
    (bigSep_univ_eq_bigSepL [0, 1, 2, 3] (by decide) (by decide) (fun k : Fin 4 => (ℓ ↦[I]{shr k} f : sProp 𝕄)))

/-- A finished tile of the device's own, in the four shares that go to its peers. -/
theorem own_split (c : Dev nD) (h : Fin 4) :
    oP c fullShare (ro c 0) h.val (outF X c)
      = iprop(srcP X c (.x h 0) ∗ srcP X c (.z h 0) ∗ srcP X c (.z h 1) ∗ srcP X c (.z h 2)) := by
  have e0 : srcP X c (.x h 0) = oP c (shr 0) (ro c 0) h.val (outF X c) := rfl
  have e1 : srcP X c (.z h 0) = oP c (shr 1) (ro c 0) h.val (outF X c) := rfl
  have e2 : srcP X c (.z h 1) = oP c (shr 2) (ro c 0) h.val (outF X c) := rfl
  have e3 : srcP X c (.z h 2) = oP c (shr 3) (ro c 0) h.val (outF X c) := rfl
  rw [e0, e1, e2, e3]
  unfold oP
  exact shares4 _ _

variable (K : Dev nD × Cell → ℕ)

/-- A tile for peer `j` of chunk `h` sent; -/
def YB (c : Dev nD) (h : Fin 4) (j : Fin 3) (t : Fin 4) : sProp 𝕄 := iprop(Cp2 X c h t ∗ S1 c (.y h j))
/-- its send over, and the peer's tile here. -/
def YC (c : Dev nD) (h : Fin 4) (j : Fin 3) (t : Fin 4) : sProp 𝕄 :=
  iprop(Cp2 X c h t ∗ S3 c (.y h j) ∗ bP c h.val j.val (ybS X c) ∗ rP c h.val j.val (ybR X c))
/-- A `z` send over at both ends, its source back; -/
def ZC (c : Dev nD) (h : Fin 4) (j : Fin 3) : sProp 𝕄 := iprop(S3 c (.z h j) ∗ srcP X c (.z h j))
/-- an `x` send likewise, with what arrived. -/
def XC (c : Dev nD) (h t : Fin 4) : sProp 𝕄 := iprop(S3 c (.x h t) ∗ srcP X c (.x h t) ∗ landed X c (.x h t))

/-- Waiting for a staged tile, rounding it, and sending it along `y`. -/
theorem chunk0 (c : Dev nD) (h : Fin 4) (j : Fin 3) (t : Fin 4) (ht : t.val = j.val) (l₀ l : List Pay) (hl₀ : l₀ = .at (.y h j) :: l)
    (a b : ℕ) (ha : a = h.val) (hb : b = j.val) (c' : Dev nD) (hc' : c' = yTo j c) (w : Vec F S1x1x512x256 .f32 → Vec F S1x1x512x256 .bf16) (hw : w = rnd)
    {sp sp' : Space} {src : Memref sig .tc sp S512x256 .f32} {dst : Memref sig .tc sp' S512x256 .f32} (hd : dst.view.dmaCredit = NS)
    {i0 i1 i2 i3 i4 i5 i6 i7 g1 g2 g3 g4 g5 g6 hsc h1 h2 h3} {kk : PUnit → Pg F PUnit} {Q : PUnit → sProp 𝕄} :
    recs X K ⊢ iprop(Cp1 c h t -∗ S0 c (.y h j) -∗ (∃ f, bP c h.val j.val f) -∗ owesL c l₀ -∗ (owesL c l -∗ YB X c h j t -∗ Wp c (kk ⟨⟩) Q)
      -∗ Wp c (Prog.op (.waitDma2 (sem4 cc0_scratch3 a b i0) src dst g1 g2) fun _ =>
        Prog.op (.load (Memref.whole cc0_scratch2) (rS ![a, b, 0, 0] i1).toLoadRect g3) fun v =>
        Prog.op (.load (Memref.whole cc0_scratch0) (rB ![a, b, 0, 0] i2).toLoadRect g4) fun _ =>
        Prog.op (.store (Memref.whole cc0_scratch0) (rB ![a, b, 0, 0] i3) (w v) Finset.univ g5 g6) fun _ =>
        Prog.op (.enqueueDma (tB ![a, b, 0, 0] i4) (.remote (Dev.tc c') (tR ![a, b, 0, 0] i5) (.dma (sem3 cc0_scratch4 a b i6)) hsc) (.dma (sem3 cc0_scratch5 a b i7)) h1 h2 h3) kk) Q) := by
  subst ha hw hl₀
  have hb' : b = t.val := hb.trans ht.symm
  unfold YB Cp1 Cp2
  iintro #Hr ⟨Hc, Ha⟩ HS ⟨%f, Hb⟩ HO Hk
  iapply (wp_waitC X K c (.cp h t) (by simp) (.at (.y h j) :: l) (fun p _ => clv_pay p) (by subst hb'; exact sem_cp h t i0) hd) $$ [Hc Ha HO]
  · isplitr; · iexact Hr
    isplitl [HO]; · iexact HO
    isplitl [Ha]; · iexact Ha
    iexact Hc
  iintro ⟨HO, Hdn, Hp⟩
  unfold pay cpP
  icases Hp with ⟨Hs, Hx⟩
  subst hb
  rw [ht]
  iapply (load_s c h.val j.val (stg X c)) $$ Hs
  iintro Hs
  iapply (load_b c h.val j.val f) $$ Hb
  iintro Hb
  iapply (store_b c h.val j.val f (ybS X c) _ (rnd_stg X c h.val j.val i1 i3)) $$ Hb
  iintro Hb
  iapply (step_y X K c h j l h.val j.val rfl rfl c' hc') $$ [HS Hb HO]
  · isplitr; · iexact Hr
    isplitl [HS]; · iexact HS
    isplitl [Hb]
    · unfold srcP; iexact Hb
    iexact HO
  iintro ⟨HO, HS⟩
  iapply Hk $$ HO
  isplitr [HS]
  · isplitl [Hdn]; · iexact Hdn
    isplitl [Hs]; · iexact Hs
    iexact Hx
  iexact HS

/-- Waiting for both ends of a `y` send. -/
theorem chunk1 (c : Dev nD) (h : Fin 4) (j : Fin 3) (t : Fin 4) (l : List Pay) (hl : ∀ p ∈ l, clv (.rcv (.y h j)) < clv p.cell)
    (a b : ℕ) (ha : a = h.val) (hb : b = j.val)
    {sp sp' sp2 sp2' : Space} {src : Memref sig .tc sp S512x256 .bf16} {dst : Memref sig .tc sp' S512x256 .bf16} (hd : dst.view.dmaCredit = NB)
    {src2 : Memref sig .tc sp2 S512x256 .bf16} {dst2 : Memref sig .tc sp2' S512x256 .bf16} (hd2 : dst2.view.dmaCredit = NB)
    {i0 i1 g1 g2 g3 g4} {kk : PUnit → Pg F PUnit} {Q : PUnit → sProp 𝕄} :
    recs X K ⊢ iprop(YB X c h j t -∗ owesL c l -∗ (owesL c l -∗ YC X c h j t -∗ Wp c (kk ⟨⟩) Q)
      -∗ Wp c (Prog.op (.waitDma2 (sem3 cc0_scratch4 a b i0) src dst g1 g2) fun _ =>
        Prog.op (.waitDma2 (sem3 cc0_scratch5 a b i1) src2 dst2 g3 g4) kk) Q) := by
  subst ha hb
  unfold YB YC S1 S3
  iintro #Hr ⟨Hp, Hc1, Ha1, Ha2, Hc2⟩ HO Hk
  iapply (wp_waitC X K c (.snd (.y h j)) (by simp) l (fun p _ => clv_pay p) (sem_snd_y h j i0) hd) $$ [Hc1 Ha1 HO]
  · isplitr; · iexact Hr
    isplitl [HO]; · iexact HO
    isplitl [Ha1]; · iexact Ha1
    iexact Hc1
  iintro ⟨HO, Ha1, Hb⟩
  iapply (wp_waitC X K c (.rcv (.y h j)) (by simp) l hl (sem_rcv_y h j i1) hd2) $$ [Hc2 Ha2 HO]
  · isplitr; · iexact Hr
    isplitl [HO]; · iexact HO
    isplitl [Ha2]; · iexact Ha2
    iexact Hc2
  iintro ⟨HO, Ha2, Hr2⟩
  iapply Hk $$ HO
  isplitl [Hp]; · iexact Hp
  isplitl [Ha1 Ha2]
  · isplitl [Ha1] <;> iassumption
  unfold pay srcP landed
  isplitl [Hb] <;> iassumption

/-- A peer's tile among the pieces of `YC`, at a literal peer. -/
theorem YC_rP (c : Dev nD) (h : Fin 4) (j : Fin 3) (t : Fin 4) (k : ℕ) (hk : k = j.val) :
    YC X c h j t ⊢ iprop(rP c h.val k (ybR X c) ∗ (rP c h.val k (ybR X c) -∗ YC X c h j t)) := by
  subst hk
  unfold YC
  iintro ⟨Ha, Hb, Hc, Hd⟩
  isplitl [Hd]; · iexact Hd
  iintro Hd
  isplitl [Ha]; · iexact Ha
  isplitl [Hb]; · iexact Hb
  isplitl [Hc] <;> iassumption

/-- Waiting for the device's own staged tile, adding the three received to it, and sending the sum on. -/
theorem chunk2 (c : Dev nD) (h : Fin 4) (l₀ l : List Pay) (hl₀ : l₀ = .at (.x h 0) :: .at (.z h 0) :: .at (.z h 1) :: .at (.z h 2) :: l) (a : ℕ) (ha : a = h.val) (o o' o'' : Fin 2 → ℕ) (ho : o = ![ro c 0, 256 * h.val])
    (ho' : o' = ![ro c 0, 256 * h.val]) (ho'' : o'' = ![ro c 0, 256 * h.val])
    (cx cz cz' cz'' : Dev nD) (hcx : cx = xTo c) (hcz : cz = zTo 0 c) (hcz' : cz' = zTo 1 c) (hcz'' : cz'' = zTo 2 c)
    (w : Vec F S1x1x512x256 .f32 → Vec F S1x1x512x256 .bf16 → Vec F S1x1x512x256 .bf16 → Vec F S1x1x512x256 .bf16 → FVec F S512x256 .bf16) (hw : w = add4)
    {sp sp' : Space} {src : Memref sig .tc sp S512x256 .f32} {dst : Memref sig .tc sp' S512x256 .f32} (hd : dst.view.dmaCredit = NS)
    {i0 i1 i2 i3 i4 i5 i6 g1 g2 g3 g4 g5 g6 g7 g8 g9}
    {j0 j1 j2 j3 hs0 k0 k1 k2} {m0 m1 m2 m3 hs1 n0 n1 n2} {p0 p1 p2 p3 hs2 q0 q1 q2} {r0 r1 r2 r3 hs3 s0 s1 s2}
    {kk : PUnit → Pg F PUnit} {Q : PUnit → sProp 𝕄} :
    recs X K ⊢ iprop(Cp1 c h 3 -∗ (∃ f, oP c fullShare (ro c 0) h.val f) -∗ YC X c h 0 0 -∗ YC X c h 1 1 -∗ YC X c h 2 2 -∗ S0 c (.x h 0) -∗ S0 c (.z h 0) -∗ S0 c (.z h 1) -∗ S0 c (.z h 2)
      -∗ owesL c l₀
      -∗ (owesL c l -∗ Cp2 X c h 3 -∗ YC X c h 0 0 -∗ YC X c h 1 1 -∗ YC X c h 2 2 -∗ S1 c (.x h 0) -∗ S1 c (.z h 0) -∗ S1 c (.z h 1) -∗ S1 c (.z h 2) -∗ Wp c (kk ⟨⟩) Q)
      -∗ Wp c (Prog.op (.waitDma2 (sem4 cc0_scratch3 a 3 i0) src dst g1 g2) fun _ =>
        Prog.op (.load (Memref.whole cc0_scratch2) (rS ![a, 3, 0, 0] i1).toLoadRect g3) fun v =>
        Prog.op (.load (Memref.whole cc0_scratch1) (rB ![a, 0, 0, 0] i2).toLoadRect g4) fun v0 =>
        Prog.op (.load (Memref.whole cc0_scratch1) (rB ![a, 1, 0, 0] i3).toLoadRect g5) fun v1 =>
        Prog.op (.load (Memref.whole cc0_scratch1) (rB ![a, 2, 0, 0] i4).toLoadRect g6) fun v2 =>
        Prog.op (.load (Memref.whole cc0_stg0_0) (rO o i5).toLoadRect g7) fun _ =>
        Prog.op (.store (Memref.whole cc0_stg0_0) (rO o i6) (w v v0 v1 v2) Finset.univ g8 g9) fun _ =>
        Prog.op (.enqueueDma (tO o' j0) (.remote (Dev.tc cx) (tO o' j1) (.dma (sem4 cc0_scratch8 a 0 j2)) hs0) (.dma (sem4 cc0_scratch9 a 0 j3)) k0 k1 k2) fun _ =>
        Prog.op (.enqueueDma (tO o'' m0) (.remote (Dev.tc cz) (tO o'' m1) (.dma (sem3 cc0_scratch6 a 0 m2)) hs1) (.dma (sem3 cc0_scratch7 a 0 m3)) n0 n1 n2) fun _ =>
        Prog.op (.enqueueDma (tO o'' p0) (.remote (Dev.tc cz') (tO o'' p1) (.dma (sem3 cc0_scratch6 a 1 p2)) hs2) (.dma (sem3 cc0_scratch7 a 1 p3)) q0 q1 q2) fun _ =>
        Prog.op (.enqueueDma (tO o'' r0) (.remote (Dev.tc cz'') (tO o'' r1) (.dma (sem3 cc0_scratch6 a 2 r2)) hs3) (.dma (sem3 cc0_scratch7 a 2 r3)) s0 s1 s2) kk) Q) := by
  subst ha hw ho hl₀
  unfold Cp1
  iintro #Hr ⟨Hc, Ha⟩ ⟨%f, Ho⟩ HY0 HY1 HY2 HX HZ0 HZ1 HZ2 HO Hk
  iapply (wp_waitC X K c (.cp h 3) (by simp) _ (fun p _ => clv_pay p) (sem_cp h 3 i0) hd) $$ [Hc Ha HO]
  · isplitr; · iexact Hr
    isplitl [HO]; · iexact HO
    isplitl [Ha]; · iexact Ha
    iexact Hc
  iintro ⟨HO, Hdn, Hp⟩
  ihave Hp' := (Entails.of_eq (show pay X c (.cp h 3) 0 = iprop(sP c h.val 3 (stg X c) ∗ xP c (ro c 0) (co c 3 h.val) (X c)) from rfl)) $$ Hp
  icases Hp' with ⟨Hs, Hx⟩
  iapply (load_s c h.val 3 (stg X c)) $$ Hs
  iintro Hs
  ihave HY0x := (YC_rP X c h 0 0 0 rfl) $$ HY0
  icases HY0x with ⟨Y0, HY0⟩
  iapply (load_r c h.val 0 (ybR X c)) $$ Y0
  iintro Y0
  ihave HY1x := (YC_rP X c h 1 1 1 rfl) $$ HY1
  icases HY1x with ⟨Y1, HY1⟩
  iapply (load_r c h.val 1 (ybR X c)) $$ Y1
  iintro Y1
  ihave HY2x := (YC_rP X c h 2 2 2 rfl) $$ HY2
  icases HY2x with ⟨Y2, HY2⟩
  iapply (load_r c h.val 2 (ybR X c)) $$ Y2
  iintro Y2
  iapply (load_o c fullShare (ro c 0) h.val f) $$ Ho
  iintro Ho
  iapply (store_o c (ro c 0) h.val f (outF X c) _ (add4_out X c h i1 i2 i3 i4 i6)) $$ Ho
  iintro Ho
  ihave Ho4 := (Entails.of_eq (own_split X c h)) $$ Ho
  icases Ho4 with ⟨Ho0, Ho1, Ho2, Ho3⟩
  iapply (step_x X K c h 0 _ h.val 0 rfl rfl o' ho' cx hcx) $$ [HX Ho0 HO]
  · isplitr; · iexact Hr
    isplitl [HX]; · iexact HX
    isplitl [Ho0]; · iexact Ho0
    iexact HO
  iintro ⟨HO, HX⟩
  iapply (step_z X K c h 0 _ h.val 0 rfl rfl o'' ho'' cz hcz) $$ [HZ0 Ho1 HO]
  · isplitr; · iexact Hr
    isplitl [HZ0]; · iexact HZ0
    isplitl [Ho1]; · iexact Ho1
    iexact HO
  iintro ⟨HO, HZ0⟩
  iapply (step_z X K c h 1 _ h.val 1 rfl rfl o'' ho'' cz' hcz') $$ [HZ1 Ho2 HO]
  · isplitr; · iexact Hr
    isplitl [HZ1]; · iexact HZ1
    isplitl [Ho2]; · iexact Ho2
    iexact HO
  iintro ⟨HO, HZ1⟩
  iapply (step_z X K c h 2 _ h.val 2 rfl rfl o'' ho'' cz'' hcz'') $$ [HZ2 Ho3 HO]
  · isplitr; · iexact Hr
    isplitl [HZ2]; · iexact HZ2
    isplitl [Ho3]; · iexact Ho3
    iexact HO
  iintro ⟨HO, HZ2⟩
  iapply Hk $$ HO [Hdn Hs Hx] [HY0 Y0] [HY1 Y1] [HY2 Y2] HX HZ0 HZ1 HZ2
  · unfold Cp2
    isplitl [Hdn]; · iexact Hdn
    iapply (Entails.of_eq (show iprop(sP c h.val 3 (stg X c) ∗ xP c (ro c 0) (co c 3 h.val) (X c)) = cpP X c h 3 from rfl))
    isplitl [Hs] <;> iassumption
  · iapply HY0 $$ Y0
  · iapply HY1 $$ Y1
  · iapply HY2 $$ Y2

/-- Waiting for a sum that comes along `z`, and sending it on across `x`. -/
theorem chunk3 (c : Dev nD) (h : Fin 4) (j : Fin 3) (t : Fin 4) (ht : t.val = j.val + 1) (l₀ l : List Pay)
    (hl₀ : l₀ = .at (.x h t) :: l) (hl : ∀ p ∈ l₀, clv (.rcv (.z h j)) < clv p.cell)
    (a b b' : ℕ) (ha : a = h.val) (hb : b = j.val) (hb' : b' = t.val) (o : Fin 2 → ℕ) (ho : o = ![ro c t.val, 256 * h.val]) (c' : Dev nD) (hc' : c' = xTo c)
    {sp sp' : Space} {src : Memref sig .tc sp S512x256 .bf16} {dst : Memref sig .tc sp' S512x256 .bf16} (hd : dst.view.dmaCredit = NB)
    {i0 i1 i2 i3 i4 g1 g2 hsc h1 h2 h3} {kk : PUnit → Pg F PUnit} {Q : PUnit → sProp 𝕄} :
    recs X K ⊢ iprop(S1 c (.z h j) -∗ S0 c (.x h t) -∗ owesL c l₀ -∗ (owesL c l -∗ S2 c (.z h j) -∗ S1 c (.x h t) -∗ Wp c (kk ⟨⟩) Q)
      -∗ Wp c (Prog.op (.waitDma2 (sem3 cc0_scratch7 a b i0) src dst g1 g2) fun _ =>
        Prog.op (.enqueueDma (tO o i1) (.remote (Dev.tc c') (tO o i2) (.dma (sem4 cc0_scratch8 a b' i3)) hsc) (.dma (sem4 cc0_scratch9 a b' i4)) h1 h2 h3) kk) Q) := by
  subst ha hb hl₀
  have e : pay X c (.rcv (.z h j)) 0 = srcP X c (.x h t) := by
    show oP c fullShare (ro c (j.val + 1)) h.val (outF X c) = oP c (if t.val = 0 then shr 0 else fullShare) (ro c t.val) h.val (outF X c)
    rw [ht, if_neg (Nat.succ_ne_zero _)]
  unfold S2
  iintro #Hr HZ HX HO Hk
  ihave HZ' := (Entails.of_eq (show S1 c (.z h j) = iprop(crd c (.snd (.z h j)) ∗ opn c (.snd (.z h j)) ∗ opn c (.rcv (.z h j)) ∗ crd c (.rcv (.z h j))) from rfl)) $$ HZ
  icases HZ' with ⟨Hc1, Ha1, Ha2, Hc2⟩
  iapply (wp_waitC X K c (.rcv (.z h j)) (by simp) _ hl (sem_rcv_z h j i0) hd) $$ [Hc2 Ha2 HO]
  · isplitr; · iexact Hr
    isplitl [HO]; · iexact HO
    isplitl [Ha2]; · iexact Ha2
    iexact Hc2
  iintro ⟨HO, Ha2, Hp⟩
  ihave Hp' := (Entails.of_eq e) $$ Hp
  iapply (step_x X K c h t l h.val b' rfl hb' o ho c' hc') $$ [HX Hp' HO]
  · isplitr; · iexact Hr
    isplitl [HX]; · iexact HX
    isplitl [Hp']; · iexact Hp'
    iexact HO
  iintro ⟨HO, HX⟩
  iapply Hk $$ HO [Hc1 Ha1 Ha2] HX
  isplitl [Hc1]; · iexact Hc1
  isplitl [Ha1] <;> iassumption

/-- The last wait on a `z` send; -/
theorem chunk4 (c : Dev nD) (h : Fin 4) (j : Fin 3) (l : List Pay) (a b : ℕ) (ha : a = h.val) (hb : b = j.val)
    {sp sp' : Space} {src : Memref sig .tc sp S512x256 .bf16} {dst : Memref sig .tc sp' S512x256 .bf16} (hd : dst.view.dmaCredit = NB)
    {i0 g1 g2} {kk : PUnit → Pg F PUnit} {Q : PUnit → sProp 𝕄} :
    recs X K ⊢ iprop(S2 c (.z h j) -∗ owesL c l -∗ (owesL c l -∗ ZC X c h j -∗ Wp c (kk ⟨⟩) Q)
      -∗ Wp c (Prog.op (.waitDma2 (sem3 cc0_scratch6 a b i0) src dst g1 g2) kk) Q) := by
  subst ha hb
  unfold S2 ZC S3
  iintro #Hr ⟨Hc1, Ha1, Ha2⟩ HO Hk
  iapply (wp_waitC X K c (.snd (.z h j)) (by simp) l (fun p _ => clv_pay p) (sem_snd_z h j i0) hd) $$ [Hc1 Ha1 HO]
  · isplitr; · iexact Hr
    isplitl [HO]; · iexact HO
    isplitl [Ha1]; · iexact Ha1
    iexact Hc1
  iintro ⟨HO, Ha1, Hp⟩
  iapply Hk $$ HO
  isplitl [Ha1 Ha2]
  · isplitl [Ha1] <;> iassumption
  unfold pay
  iexact Hp

/-- and the last two on an `x` send. -/
theorem chunk5 (c : Dev nD) (h t : Fin 4) (a b : ℕ) (ha : a = h.val) (hb : b = t.val)
    {sp sp' sp2 sp2' : Space} {src : Memref sig .tc sp S512x256 .bf16} {dst : Memref sig .tc sp' S512x256 .bf16} (hd : dst.view.dmaCredit = NB)
    {src2 : Memref sig .tc sp2 S512x256 .bf16} {dst2 : Memref sig .tc sp2' S512x256 .bf16} (hd2 : dst2.view.dmaCredit = NB)
    {i0 i1 g1 g2 g3 g4} {kk : PUnit → Pg F PUnit} {Q : PUnit → sProp 𝕄} :
    recs X K ⊢ iprop(S1 c (.x h t) -∗ owesL c [] -∗ (owesL c [] -∗ XC X c h t -∗ Wp c (kk ⟨⟩) Q)
      -∗ Wp c (Prog.op (.waitDma2 (sem4 cc0_scratch8 a b i0) src dst g1 g2) fun _ =>
        Prog.op (.waitDma2 (sem4 cc0_scratch9 a b i1) src2 dst2 g3 g4) kk) Q) := by
  subst ha hb
  unfold S1 XC S3
  iintro #Hr ⟨Hc1, Ha1, Ha2, Hc2⟩ HO Hk
  iapply (wp_waitC X K c (.snd (.x h t)) (by simp) [] (fun p _ => clv_pay p) (sem_snd_x h t i0) hd) $$ [Hc1 Ha1 HO]
  · isplitr; · iexact Hr
    isplitl [HO]; · iexact HO
    isplitl [Ha1]; · iexact Ha1
    iexact Hc1
  iintro ⟨HO, Ha1, Hb⟩
  iapply (wp_waitC X K c (.rcv (.x h t)) (by simp) [] (fun p hp => absurd hp List.not_mem_nil) (sem_rcv_x h t i1) hd2) $$ [Hc2 Ha2 HO]
  · isplitr; · iexact Hr
    isplitl [HO]; · iexact HO
    isplitl [Ha2]; · iexact Ha2
    iexact Hc2
  iintro ⟨HO, Ha2, Hr2⟩
  iapply Hk $$ HO
  isplitl [Ha1 Ha2]
  · isplitl [Ha1] <;> iassumption
  unfold pay
  isplitl [Hb] <;> iassumption

end

end Cert.KernelIdeal.Proof

end
-- ==== Proof.Body.lean ====
/-
# `Body`: one device's body, start to end

A device signals its seven peers, handing each the places on it where their copies land, and waits for the
seven signals that hand it theirs.  It starts its sixteen local copies, and then each chunk goes through
its five steps, a chunk one step behind the one before.  At the end every copy is waited for, and the
device holds the output block and every semaphore drained.
-/
module

public import proofs.«01_k».proof.Proof.Chunks

@[expose] public section

noncomputable section

namespace Cert.KernelIdeal.Proof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ

/-! ## The barrier -/

omit [FloatOps F] in
/-- A family over the sites, by the signal each belongs to. -/
theorem by_sg (Φ : Site → sProp 𝕄) :
    bigSep Finset.univ Φ = bigSep Finset.univ fun d : Fin 7 => bigSep (Finset.univ.filter fun s => sg s = d) Φ := by
  have e : (Finset.univ : Finset Site) = Finset.univ.biUnion fun d : Fin 7 => Finset.univ.filter fun s => sg s = d := by
    ext s; simp
  conv_lhs => rw [e]
  exact bigSep_biUnion_eq _ _ _ fun d _ d' _ hne => Finset.disjoint_filter.mpr fun s _ h h' => hne (h.symm.trans h')

theorem to_sg (c : Dev nD) (s : Site) : barFr (sg s) c = s.to c := by
  cases s with
  | y h j => match j with | 0 => rfl | 1 => rfl | 2 => rfl
  | z h j => match j with | 0 => rfl | 1 => rfl | 2 => rfl
  | x h t => rfl

omit [FloatOps F] in
/-- All a device hands to the barriers of its seven peers: every place on it where something lands. -/
theorem bars_out (c : Dev nD) :
    (bigSep Finset.univ fun s : Site => landAny (F := F) c s) = bigSep Finset.univ fun d : Fin 7 => barPay (barTo d c) d := by
  rw [by_sg]
  refine bigSep_congr fun d _ => ?_
  unfold barPay
  rw [barFr_barTo]

omit [FloatOps F] in
/-- All it receives at its own: every place its copies land in. -/
theorem bars_in (c : Dev nD) :
    (bigSep Finset.univ fun d : Fin 7 => barPay (F := F) c d) = bigSep Finset.univ fun s : Site => landAny (s.to c) s := by
  rw [by_sg]
  refine bigSep_congr fun d _ => ?_
  unfold barPay
  refine bigSep_congr fun s hs => ?_
  rw [← to_sg, (Finset.mem_filter.mp hs).2]

variable (X : Dev nD → XT F) (K : Dev nD × Cell → ℕ)

/-- One barrier signal. -/
theorem sig1 (c : Dev nD) (d : Fin 7) (l₀ l : List Pay) (hl₀ : l₀ = .bar d :: l) (c' : Dev nD) (hc' : c' = barTo d c) {kk : PUnit → Pg F PUnit} {Q : PUnit → sProp 𝕄} :
    recs X K ⊢ iprop(tok (barTo d c) .bar d -∗ barPay (barTo d c) d -∗ owesL c l₀ -∗ (owesL c l -∗ Wp c (kk ⟨⟩) Q)
      -∗ Wp c (Prog.op (.semSignal (c' : Thread nD τ) barS 1) kk) Q) := by
  subst hc' hl₀
  unfold owesL
  iintro #Hr Ht Hp ⟨%W, HO⟩ Hk
  iapply (Rounds.wp_signal 𝒱₀ ER (Rd X) (c : Thread nD τ) none (dst := ((barTo d c : Dev nD) : Thread nD τ)) (κ := K (barTo d c, .bar)) (r := 0) (d := d)
    (by erw [Rd_duties X (barTo d c) .bar]; exact Finset.mem_univ _) (Rd_amount X (barTo d c) .bar d) () (owe c l) rfl) $$ [Ht Hp HO]
  · isplitr; · iapply (recs_inv X K (barTo d c) .bar); iexact Hr
    isplitl [HO]; · iexact HO
    isplitl [Ht]; · unfold tok; iexact Ht
    isplitl [Hp]
    · iapply (Entails.of_eq (show (Rd X).payload (((barTo d c : Dev nD) : Thread nD τ), .reg barS) 0 d = barPay (barTo d c) d from Rd_payload X (barTo d c) .bar d).symm); iexact Hp
    iapply (recs_bar X K (barTo d c)); iexact Hr
  iintro HO
  iapply Hk
  iexists _; iexact HO

/-- The barrier wait. -/
theorem bar7 (c : Dev nD) (l : List Pay) (hl : ∀ p ∈ l, 1 < clv p.cell) {kk : PUnit → Pg F PUnit} {Q : PUnit → sProp 𝕄} :
    recs X K ⊢ iprop(opn c .bar -∗ cred (tallyAt (gcell c .bar) () 7) -∗ owesL c l
      -∗ (owesL c l -∗ don c .bar -∗ (bigSep Finset.univ fun s : Site => landAny (s.to c) s) -∗ Wp c (kk ⟨⟩) Q)
      -∗ Wp c (Prog.op (.semWait barS 7) kk) Q) := by
  unfold owesL
  iintro #Hr Hat Hc ⟨%W, HO⟩ Hk
  iapply (Rounds.wp_wait_rest_token 𝒱₀ ER (Rd X) (c : Thread nD τ) none (κ := K (c, .bar))
    (wpE_semWait_eq 𝒱₀ (c : Thread nD τ) none Set.univ) (Set.mem_univ _) () (O := owe c l) (W := W) (R := 0) (m := 0) (T := ∅)
    (by rw [Nat.zero_add]; exact (Rd_expect_bar X c).symm)) $$ [HO Hat Hc]
  · isplitr; · iapply (recs_inv X K c .bar); iexact Hr
    isplitl [Hc]; · iexact Hc
    isplitl [HO]; · iexact HO
    isplitr
    · unfold recs
      icases Hr with ⟨-, -, #Hlev⟩
      iapply (mayWait c (csem .bar) l fun p hp => lt_of_eq_of_lt (lv_gcell c .bar ()) (hl p hp)); iexact Hlev
    unfold opn; iexact Hat
  iintro ⟨HO, Hat, -, Hp⟩
  iapply Hk $$ [HO] [Hat]
  · iexists _; iexact HO
  · unfold don; iexact Hat
  iapply (Entails.of_eq ((Rd_rest_bar X c).trans (bars_in c))); iexact Hp

/-- What is still owed after `n` payments. -/
def rest (n : ℕ) : List Pay := pays.drop n

theorem own_row {c : Dev nD} {o : Fin 2 → ℕ} {k : ℕ} (h : o = ![1024 * (c.val % 4) + 512 * (c.val / 16), k]) : o = ![ro c 0, k] := by
  rw [h, show ro c 0 = 1024 * (c.val % 4) + 512 * (c.val / 16) by unfold ro; omega]

theorem off1_at (c : Dev nD) (r : Fin 3) (h : Fin 4) :
    k0_off1 c (BitVec.ofNat 32 r.val) (BitVec.ofNat 32 (256 * h.val)) = ![ro c 0, co c r.val h.val] := own_row (k0_off1_eq c r h)
theorem off2_at (c : Dev nD) (h : Fin 4) : k0_off2 c (BitVec.ofNat 32 (256 * h.val)) = ![ro c 0, co c 3 h.val] := by
  refine own_row ((k0_off2_eq c h).trans ?_)
  rw [show co c 3 h.val = 1024 * (c.val / 4 % 4) + 256 * h.val by unfold co; omega]

/-- All pairs of a chunk and a peer, listed. -/
def l43 : List (Fin 4 × Fin 3) := [(0, 0), (0, 1), (0, 2), (1, 0), (1, 1), (1, 2), (2, 0), (2, 1), (2, 2), (3, 0), (3, 1), (3, 2)]
def l44 : List (Fin 4 × Fin 4) := [(0, 0), (0, 1), (0, 2), (0, 3), (1, 0), (1, 1), (1, 2), (1, 3), (2, 0), (2, 1), (2, 2), (2, 3), (3, 0), (3, 1), (3, 2), (3, 3)]
omit [FloatOps F] in
theorem big43 (Φ : Fin 4 × Fin 3 → sProp 𝕄) : bigSep Finset.univ Φ = iprop(Φ (0, 0) ∗ Φ (0, 1) ∗ Φ (0, 2) ∗ Φ (1, 0) ∗ Φ (1, 1) ∗ Φ (1, 2) ∗ Φ (2, 0) ∗ Φ (2, 1) ∗ Φ (2, 2) ∗ Φ (3, 0) ∗ Φ (3, 1) ∗ Φ (3, 2)) := bigSep_univ_eq_bigSepL l43 (by decide) (by decide) Φ
omit [FloatOps F] in
theorem big44 (Φ : Fin 4 × Fin 4 → sProp 𝕄) : bigSep Finset.univ Φ = iprop(Φ (0, 0) ∗ Φ (0, 1) ∗ Φ (0, 2) ∗ Φ (0, 3) ∗ Φ (1, 0) ∗ Φ (1, 1) ∗ Φ (1, 2) ∗ Φ (1, 3) ∗ Φ (2, 0) ∗ Φ (2, 1) ∗ Φ (2, 2) ∗ Φ (2, 3) ∗ Φ (3, 0) ∗ Φ (3, 1) ∗ Φ (3, 2) ∗ Φ (3, 3)) := bigSep_univ_eq_bigSepL l44 (by decide) (by decide) Φ
omit [FloatOps F] in
theorem big4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem big7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSite (Φ : Site → sProp 𝕄) : bigSep Finset.univ Φ = bigSepL sends Φ := bigSep_univ_eq_bigSepL sends (by decide) (by decide) Φ

/-- What a device enters the kernel's body with, -/
def Pre (c : Dev nD) : sProp 𝕄 :=
  iprop(owesL c (rest 0) ∗ (bigSep Finset.univ fun d : Fin 7 => tok (barTo d c) .bar d) ∗ opn c .bar ∗ cred (tallyAt (gcell c .bar) () 7)
    ∗ (bigSep Finset.univ fun s : Site => landAny c s) ∗ (bigSep Finset.univ fun s : Site => Sx c s)
    ∗ (bigSep Finset.univ fun p : Fin 4 × Fin 4 => Cp0 X c p.1 p.2)
    ∗ (bigSep Finset.univ fun p : Fin 4 × Fin 3 => iprop(∃ f, bP c p.1.val p.2.val f))
    ∗ bigSep Finset.univ fun h : Fin 4 => iprop(∃ f, oP c fullShare (ro c 0) h.val f))
/-- and leaves it with. -/
def Post (c : Dev nD) : sProp 𝕄 :=
  iprop(owesL c [] ∗ don c .bar
    ∗ (bigSep Finset.univ fun p : Fin 4 × Fin 3 => YC X c p.1 p.2 p.2.castSucc)
    ∗ (bigSep Finset.univ fun h : Fin 4 => Cp2 X c h 3)
    ∗ (bigSep Finset.univ fun p : Fin 4 × Fin 3 => ZC X c p.1 p.2)
    ∗ bigSep Finset.univ fun p : Fin 4 × Fin 4 => XC X c p.1 p.2)

theorem cr_b {sp : Space} (m : Memref sig .tc sp S512x256 .bf16) : m.view.dmaCredit = NB := rfl
theorem cr_s {sp : Space} (m : Memref sig .tc sp S512x256 .f32) : m.view.dmaCredit = NS := rfl

/-- One local copy. -/
theorem cp1 (c : Dev nD) (h t : Fin 4) (a b : ℕ) (ha : a = h.val) (hb : b = t.val) (o : Fin 2 → ℕ) (ho : o = ![ro c 0, co c t.val h.val])
    {i0 i1 i2 h1 h2 h3} {kk : PUnit → Pg F PUnit} {Q : PUnit → sProp 𝕄} :
    recs X K ⊢ iprop(Cp0 X c h t -∗ (Cp1 c h t -∗ Wp c (kk ⟨⟩) Q)
      -∗ Wp c (Prog.op (.enqueueDma (tX o i0) (.here (tS ![a, b, 0, 0] i1)) (.dma (sem4 cc0_scratch3 a b i2)) h1 h2 h3) kk) Q) := by
  iintro #Hr HC Hk
  iapply (step_copy X K c h t a b ha hb o ho) $$ [HC]
  · isplitr; · iexact Hr
    iexact HC
  iexact Hk

omit [FloatOps F] in
theorem S0_sites (c : Dev nD) : (bigSep Finset.univ fun s : Site => S0 (F := F) c s) = iprop(S0 c (.y 0 0) ∗ S0 c (.y 0 1) ∗ S0 c (.y 0 2) ∗ S0 c (.x 0 0) ∗ S0 c (.z 0 0) ∗ S0 c (.z 0 1) ∗ S0 c (.z 0 2) ∗ S0 c (.y 1 0) ∗ S0 c (.y 1 1) ∗ S0 c (.y 1 2) ∗ S0 c (.x 0 1) ∗ S0 c (.x 1 0) ∗ S0 c (.z 1 0) ∗ S0 c (.z 1 1) ∗ S0 c (.z 1 2) ∗ S0 c (.y 2 0) ∗ S0 c (.y 2 1) ∗ S0 c (.y 2 2) ∗ S0 c (.x 0 2) ∗ S0 c (.x 1 1) ∗ S0 c (.x 2 0) ∗ S0 c (.z 2 0) ∗ S0 c (.z 2 1) ∗ S0 c (.z 2 2) ∗ S0 c (.y 3 0) ∗ S0 c (.y 3 1) ∗ S0 c (.y 3 2) ∗ S0 c (.x 0 3) ∗ S0 c (.x 1 2) ∗ S0 c (.x 2 1) ∗ S0 c (.x 3 0) ∗ S0 c (.z 3 0) ∗ S0 c (.z 3 1) ∗ S0 c (.z 3 2) ∗ S0 c (.x 1 3) ∗ S0 c (.x 2 2) ∗ S0 c (.x 3 1) ∗ S0 c (.x 2 3) ∗ S0 c (.x 3 2) ∗ S0 c (.x 3 3)) :=
  bigSite _

omit [FloatOps F] in
theorem S0_all (c : Dev nD) : iprop((bigSep Finset.univ fun s : Site => Sx (F := F) c s) ∗ (bigSep Finset.univ fun s : Site => landAny (s.to c) s))
    ⊢ bigSep Finset.univ fun s : Site => S0 c s :=
  Entails.of_eq (bigSep_sep Finset.univ (fun s : Site => Sx (F := F) c s) (fun s : Site => landAny (s.to c) s)).symm

set_option maxRecDepth 20000 in
set_option maxHeartbeats 40000000 in
/-- The kernel's body on device `c`. -/
theorem body_run (c : Dev nD) (Kt : PUnit → sProp 𝕄) :
    iprop(recs X K ∗ Pre X c ∗ (Post X c -∗ |={Set.univ}=> Kt ⟨⟩)) ⊢ wp frame (wpE (defs₀ (F := F)) 𝒱₀ c none) Set.univ
      (cc0_body (Memref.whole main_v1) (Memref.isWhole_whole _) (Memref.whole cc0_stg0_0) (Memref.isWhole_whole _) (Memref.whole cc0_scratch0)
        (Memref.isWhole_whole _) (Memref.whole cc0_scratch1) (Memref.isWhole_whole _) (Memref.whole cc0_scratch2) (Memref.isWhole_whole _)
        cc0_scratch3 cc0_scratch4 cc0_scratch5 cc0_scratch6 cc0_scratch7 cc0_scratch8 cc0_scratch9) Kt := by
  rw [cc0_body_eq_skeleton]
  unfold cc0_body_skel
  rw [k0_part70_eq_skeleton]; unfold k0_part70_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
  simp only [k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel, k0_part44_skel, k0_part45_skel, k0_part46_skel, k0_part47_skel, k0_part48_skel, k0_part49_skel, k0_part50_skel, k0_part51_skel, k0_part52_skel, k0_part53_skel, k0_part54_skel, k0_part55_skel, k0_part56_skel, k0_part57_skel, k0_part58_skel, k0_part59_skel, k0_part60_skel, k0_part61_skel, k0_part62_skel, k0_part63_skel, k0_part64_skel, k0_part65_skel, k0_part66_skel, k0_part67_skel, k0_part68_skel, k0_part69_skel, k0_part70_skel, semSignalWord, semWaitWord, Prog.lift, Prog.bind_op, Prog.bind_ret, Prog.pure_eq_ret, wp_deviceId]
  unfold Pre
  rw [bars_out, big7, big7, big44, big43, big4]
  iintro ⟨#Hr, ⟨HO, HT, Hbar, Hcr, HP, HS, HC, HB, HM⟩, Hk⟩
  icases HT with ⟨T0, T1, T2, T3, T4, T5, T6⟩
  icases HP with ⟨P0, P1, P2, P3, P4, P5, P6⟩
  iapply (sig1 X K c 2 (rest 0) (rest 1) rfl _ (Fin.ext (k0_dev1_eq c))) $$ Hr T2 P2 HO; iintro HO
  iapply (sig1 X K c 1 (rest 1) (rest 2) rfl _ (Fin.ext (k0_dev2_eq c))) $$ Hr T1 P1 HO; iintro HO
  iapply (sig1 X K c 0 (rest 2) (rest 3) rfl _ (Fin.ext (k0_dev3_eq c))) $$ Hr T0 P0 HO; iintro HO
  iapply (sig1 X K c 5 (rest 3) (rest 4) rfl _ (Fin.ext (k0_dev4_eq c))) $$ Hr T5 P5 HO; iintro HO
  iapply (sig1 X K c 4 (rest 4) (rest 5) rfl _ (Fin.ext (k0_dev5_eq c))) $$ Hr T4 P4 HO; iintro HO
  iapply (sig1 X K c 3 (rest 5) (rest 6) rfl _ (Fin.ext (k0_dev6_eq c))) $$ Hr T3 P3 HO; iintro HO
  iapply (sig1 X K c 6 (rest 6) (rest 7) rfl _ (Fin.ext (k0_dev7_eq c))) $$ Hr T6 P6 HO; iintro HO
  iapply (bar7 X K c (rest 7) (by decide)) $$ Hr Hbar Hcr HO; iintro HO Hbar Hland
  ihave HS := (S0_all c) $$ [HS Hland]
  · isplitl [HS] <;> iassumption
  ihave HS := (Entails.of_eq (S0_sites c)) $$ HS
  icases HS with ⟨Y00, Y01, Y02, X00, Z00, Z01, Z02, Y10, Y11, Y12, X01, X10, Z10, Z11, Z12, Y20, Y21, Y22, X02, X11, X20, Z20, Z21, Z22, Y30, Y31, Y32, X03, X12, X21, X30, Z30, Z31, Z32, X13, X22, X31, X23, X32, X33⟩
  icases HC with ⟨C00, C01, C02, C03, C10, C11, C12, C13, C20, C21, C22, C23, C30, C31, C32, C33⟩
  icases HB with ⟨B00, B01, B02, B10, B11, B12, B20, B21, B22, B30, B31, B32⟩
  icases HM with ⟨M0, M1, M2, M3⟩
  iapply (cp1 X K c 0 0 0 0 rfl rfl _ (off1_at c 0 0)) $$ Hr C00; iintro C00
  iapply (cp1 X K c 0 1 0 1 rfl rfl _ (off1_at c 1 0)) $$ Hr C01; iintro C01
  iapply (cp1 X K c 0 2 0 2 rfl rfl _ (off1_at c 2 0)) $$ Hr C02; iintro C02
  iapply (cp1 X K c 0 3 0 3 rfl rfl _ (off2_at c 0)) $$ Hr C03; iintro C03
  iapply (cp1 X K c 1 0 1 0 rfl rfl _ (off1_at c 0 1)) $$ Hr C10; iintro C10
  iapply (cp1 X K c 1 1 1 1 rfl rfl _ (off1_at c 1 1)) $$ Hr C11; iintro C11
  iapply (cp1 X K c 1 2 1 2 rfl rfl _ (off1_at c 2 1)) $$ Hr C12; iintro C12
  iapply (cp1 X K c 1 3 1 3 rfl rfl _ (off2_at c 1)) $$ Hr C13; iintro C13
  iapply (cp1 X K c 2 0 2 0 rfl rfl _ (off1_at c 0 2)) $$ Hr C20; iintro C20
  iapply (cp1 X K c 2 1 2 1 rfl rfl _ (off1_at c 1 2)) $$ Hr C21; iintro C21
  iapply (cp1 X K c 2 2 2 2 rfl rfl _ (off1_at c 2 2)) $$ Hr C22; iintro C22
  iapply (cp1 X K c 2 3 2 3 rfl rfl _ (off2_at c 2)) $$ Hr C23; iintro C23
  iapply (cp1 X K c 3 0 3 0 rfl rfl _ (off1_at c 0 3)) $$ Hr C30; iintro C30
  iapply (cp1 X K c 3 1 3 1 rfl rfl _ (off1_at c 1 3)) $$ Hr C31; iintro C31
  iapply (cp1 X K c 3 2 3 2 rfl rfl _ (off1_at c 2 3)) $$ Hr C32; iintro C32
  iapply (cp1 X K c 3 3 3 3 rfl rfl _ (off2_at c 3)) $$ Hr C33; iintro C33
  iapply (chunk0 X K c 0 0 0 rfl (rest 7) (rest 8) rfl 0 0 rfl rfl _ (Fin.ext (k0_dev8_eq c)) _ rfl (cr_s _)) $$ Hr C00 Y00 B00 HO; iintro HO Y00
  iapply (chunk0 X K c 0 1 1 rfl (rest 8) (rest 9) rfl 0 1 rfl rfl _ (Fin.ext (k0_dev9_eq c)) _ rfl (cr_s _)) $$ Hr C01 Y01 B01 HO; iintro HO Y01
  iapply (chunk0 X K c 0 2 2 rfl (rest 9) (rest 10) rfl 0 2 rfl rfl _ (Fin.ext (k0_dev10_eq c)) _ rfl (cr_s _)) $$ Hr C02 Y02 B02 HO; iintro HO Y02
  iapply (chunk1 X K c 0 0 0 (rest 10) (by decide) 0 0 rfl rfl (cr_b _) (cr_b _)) $$ Hr Y00 HO; iintro HO Y00
  iapply (chunk1 X K c 0 1 1 (rest 10) (by decide) 0 1 rfl rfl (cr_b _) (cr_b _)) $$ Hr Y01 HO; iintro HO Y01
  iapply (chunk1 X K c 0 2 2 (rest 10) (by decide) 0 2 rfl rfl (cr_b _) (cr_b _)) $$ Hr Y02 HO; iintro HO Y02
  iapply (chunk2 X K c 0 (rest 10) (rest 14) rfl 0 rfl _ _ _ (own_row (k0_off3_eq c)) (k0_off4_eq c 0) (own_row (k0_off5_eq c))
    _ _ _ _ (Fin.ext (k0_dev11_eq c)) (Fin.ext (k0_dev12_eq c)) (Fin.ext (k0_dev13_eq c)) (Fin.ext (k0_dev14_eq c)) _ rfl (cr_s _)) $$ Hr C03 M0 Y00 Y01 Y02 X00 Z00 Z01 Z02 HO
  iintro HO C03 Y00 Y01 Y02 X00 Z00 Z01 Z02
  iapply (chunk0 X K c 1 0 0 rfl (rest 14) (rest 15) rfl 1 0 rfl rfl _ (Fin.ext (k0_dev15_eq c)) _ rfl (cr_s _)) $$ Hr C10 Y10 B10 HO; iintro HO Y10
  iapply (chunk0 X K c 1 1 1 rfl (rest 15) (rest 16) rfl 1 1 rfl rfl _ (Fin.ext (k0_dev16_eq c)) _ rfl (cr_s _)) $$ Hr C11 Y11 B11 HO; iintro HO Y11
  iapply (chunk0 X K c 1 2 2 rfl (rest 16) (rest 17) rfl 1 2 rfl rfl _ (Fin.ext (k0_dev17_eq c)) _ rfl (cr_s _)) $$ Hr C12 Y12 B12 HO; iintro HO Y12
  iapply (chunk3 X K c 0 0 1 rfl (rest 17) (rest 18) rfl (by decide) 0 0 1 rfl rfl rfl _ (k0_off4_eq c 1) _ (Fin.ext (k0_dev18_eq c)) (cr_b _)) $$ Hr Z00 X01 HO; iintro HO Z00 X01
  iapply (chunk1 X K c 1 0 0 (rest 18) (by decide) 1 0 rfl rfl (cr_b _) (cr_b _)) $$ Hr Y10 HO; iintro HO Y10
  iapply (chunk1 X K c 1 1 1 (rest 18) (by decide) 1 1 rfl rfl (cr_b _) (cr_b _)) $$ Hr Y11 HO; iintro HO Y11
  iapply (chunk1 X K c 1 2 2 (rest 18) (by decide) 1 2 rfl rfl (cr_b _) (cr_b _)) $$ Hr Y12 HO; iintro HO Y12
  iapply (chunk2 X K c 1 (rest 18) (rest 22) rfl 1 rfl _ _ _ (own_row (k0_off6_eq c)) (k0_off7_eq c 0) (own_row (k0_off8_eq c))
    _ _ _ _ (Fin.ext (k0_dev19_eq c)) (Fin.ext (k0_dev20_eq c)) (Fin.ext (k0_dev21_eq c)) (Fin.ext (k0_dev22_eq c)) _ rfl (cr_s _)) $$ Hr C13 M1 Y10 Y11 Y12 X10 Z10 Z11 Z12 HO
  iintro HO C13 Y10 Y11 Y12 X10 Z10 Z11 Z12
  iapply (chunk0 X K c 2 0 0 rfl (rest 22) (rest 23) rfl 2 0 rfl rfl _ (Fin.ext (k0_dev23_eq c)) _ rfl (cr_s _)) $$ Hr C20 Y20 B20 HO; iintro HO Y20
  iapply (chunk0 X K c 2 1 1 rfl (rest 23) (rest 24) rfl 2 1 rfl rfl _ (Fin.ext (k0_dev24_eq c)) _ rfl (cr_s _)) $$ Hr C21 Y21 B21 HO; iintro HO Y21
  iapply (chunk0 X K c 2 2 2 rfl (rest 24) (rest 25) rfl 2 2 rfl rfl _ (Fin.ext (k0_dev25_eq c)) _ rfl (cr_s _)) $$ Hr C22 Y22 B22 HO; iintro HO Y22
  iapply (chunk3 X K c 0 1 2 rfl (rest 25) (rest 26) rfl (by decide) 0 1 2 rfl rfl rfl _ (k0_off4_eq c 2) _ (Fin.ext (k0_dev26_eq c)) (cr_b _)) $$ Hr Z01 X02 HO; iintro HO Z01 X02
  iapply (chunk3 X K c 1 0 1 rfl (rest 26) (rest 27) rfl (by decide) 1 0 1 rfl rfl rfl _ (k0_off7_eq c 1) _ (Fin.ext (k0_dev27_eq c)) (cr_b _)) $$ Hr Z10 X11 HO; iintro HO Z10 X11
  iapply (chunk1 X K c 2 0 0 (rest 27) (by decide) 2 0 rfl rfl (cr_b _) (cr_b _)) $$ Hr Y20 HO; iintro HO Y20
  iapply (chunk1 X K c 2 1 1 (rest 27) (by decide) 2 1 rfl rfl (cr_b _) (cr_b _)) $$ Hr Y21 HO; iintro HO Y21
  iapply (chunk1 X K c 2 2 2 (rest 27) (by decide) 2 2 rfl rfl (cr_b _) (cr_b _)) $$ Hr Y22 HO; iintro HO Y22
  iapply (chunk2 X K c 2 (rest 27) (rest 31) rfl 2 rfl _ _ _ (own_row (k0_off9_eq c)) (k0_off10_eq c 0) (own_row (k0_off11_eq c))
    _ _ _ _ (Fin.ext (k0_dev28_eq c)) (Fin.ext (k0_dev29_eq c)) (Fin.ext (k0_dev30_eq c)) (Fin.ext (k0_dev31_eq c)) _ rfl (cr_s _)) $$ Hr C23 M2 Y20 Y21 Y22 X20 Z20 Z21 Z22 HO
  iintro HO C23 Y20 Y21 Y22 X20 Z20 Z21 Z22
  iapply (chunk0 X K c 3 0 0 rfl (rest 31) (rest 32) rfl 3 0 rfl rfl _ (Fin.ext (k0_dev32_eq c)) _ rfl (cr_s _)) $$ Hr C30 Y30 B30 HO; iintro HO Y30
  iapply (chunk0 X K c 3 1 1 rfl (rest 32) (rest 33) rfl 3 1 rfl rfl _ (Fin.ext (k0_dev33_eq c)) _ rfl (cr_s _)) $$ Hr C31 Y31 B31 HO; iintro HO Y31
  iapply (chunk0 X K c 3 2 2 rfl (rest 33) (rest 34) rfl 3 2 rfl rfl _ (Fin.ext (k0_dev34_eq c)) _ rfl (cr_s _)) $$ Hr C32 Y32 B32 HO; iintro HO Y32
  iapply (chunk3 X K c 0 2 3 rfl (rest 34) (rest 35) rfl (by decide) 0 2 3 rfl rfl rfl _ (k0_off4_eq c 3) _ (Fin.ext (k0_dev35_eq c)) (cr_b _)) $$ Hr Z02 X03 HO; iintro HO Z02 X03
  iapply (chunk3 X K c 1 1 2 rfl (rest 35) (rest 36) rfl (by decide) 1 1 2 rfl rfl rfl _ (k0_off7_eq c 2) _ (Fin.ext (k0_dev36_eq c)) (cr_b _)) $$ Hr Z11 X12 HO; iintro HO Z11 X12
  iapply (chunk3 X K c 2 0 1 rfl (rest 36) (rest 37) rfl (by decide) 2 0 1 rfl rfl rfl _ (k0_off10_eq c 1) _ (Fin.ext (k0_dev37_eq c)) (cr_b _)) $$ Hr Z20 X21 HO; iintro HO Z20 X21
  iapply (chunk1 X K c 3 0 0 (rest 37) (by decide) 3 0 rfl rfl (cr_b _) (cr_b _)) $$ Hr Y30 HO; iintro HO Y30
  iapply (chunk1 X K c 3 1 1 (rest 37) (by decide) 3 1 rfl rfl (cr_b _) (cr_b _)) $$ Hr Y31 HO; iintro HO Y31
  iapply (chunk1 X K c 3 2 2 (rest 37) (by decide) 3 2 rfl rfl (cr_b _) (cr_b _)) $$ Hr Y32 HO; iintro HO Y32
  iapply (chunk2 X K c 3 (rest 37) (rest 41) rfl 3 rfl _ _ _ (own_row (k0_off12_eq c)) (k0_off13_eq c 0) (own_row (k0_off14_eq c))
    _ _ _ _ (Fin.ext (k0_dev38_eq c)) (Fin.ext (k0_dev39_eq c)) (Fin.ext (k0_dev40_eq c)) (Fin.ext (k0_dev41_eq c)) _ rfl (cr_s _)) $$ Hr C33 M3 Y30 Y31 Y32 X30 Z30 Z31 Z32 HO
  iintro HO C33 Y30 Y31 Y32 X30 Z30 Z31 Z32
  iapply (chunk3 X K c 1 2 3 rfl (rest 41) (rest 42) rfl (by decide) 1 2 3 rfl rfl rfl _ (k0_off7_eq c 3) _ (Fin.ext (k0_dev42_eq c)) (cr_b _)) $$ Hr Z12 X13 HO; iintro HO Z12 X13
  iapply (chunk3 X K c 2 1 2 rfl (rest 42) (rest 43) rfl (by decide) 2 1 2 rfl rfl rfl _ (k0_off10_eq c 2) _ (Fin.ext (k0_dev43_eq c)) (cr_b _)) $$ Hr Z21 X22 HO; iintro HO Z21 X22
  iapply (chunk3 X K c 3 0 1 rfl (rest 43) (rest 44) rfl (by decide) 3 0 1 rfl rfl rfl _ (k0_off13_eq c 1) _ (Fin.ext (k0_dev44_eq c)) (cr_b _)) $$ Hr Z30 X31 HO; iintro HO Z30 X31
  iapply (chunk3 X K c 2 2 3 rfl (rest 44) (rest 45) rfl (by decide) 2 2 3 rfl rfl rfl _ (k0_off10_eq c 3) _ (Fin.ext (k0_dev45_eq c)) (cr_b _)) $$ Hr Z22 X23 HO; iintro HO Z22 X23
  iapply (chunk3 X K c 3 1 2 rfl (rest 45) (rest 46) rfl (by decide) 3 1 2 rfl rfl rfl _ (k0_off13_eq c 2) _ (Fin.ext (k0_dev46_eq c)) (cr_b _)) $$ Hr Z31 X32 HO; iintro HO Z31 X32
  iapply (chunk3 X K c 3 2 3 rfl (rest 46) (rest 47) rfl (by decide) 3 2 3 rfl rfl rfl _ (k0_off13_eq c 3) _ (Fin.ext (k0_dev47_eq c)) (cr_b _)) $$ Hr Z32 X33 HO; iintro HO Z32 X33
  ihave HO := (Entails.of_eq (show owesL (F := F) c (rest 47) = owesL c [] from rfl)) $$ HO
  iapply (chunk4 X K c 0 0 [] 0 0 rfl rfl (cr_b _)) $$ Hr Z00 HO; iintro HO Z00
  iapply (chunk4 X K c 0 1 [] 0 1 rfl rfl (cr_b _)) $$ Hr Z01 HO; iintro HO Z01
  iapply (chunk4 X K c 0 2 [] 0 2 rfl rfl (cr_b _)) $$ Hr Z02 HO; iintro HO Z02
  iapply (chunk5 X K c 0 0 0 0 rfl rfl (cr_b _) (cr_b _)) $$ Hr X00 HO; iintro HO X00
  iapply (chunk5 X K c 0 1 0 1 rfl rfl (cr_b _) (cr_b _)) $$ Hr X01 HO; iintro HO X01
  iapply (chunk5 X K c 0 2 0 2 rfl rfl (cr_b _) (cr_b _)) $$ Hr X02 HO; iintro HO X02
  iapply (chunk5 X K c 0 3 0 3 rfl rfl (cr_b _) (cr_b _)) $$ Hr X03 HO; iintro HO X03
  iapply (chunk4 X K c 1 0 [] 1 0 rfl rfl (cr_b _)) $$ Hr Z10 HO; iintro HO Z10
  iapply (chunk4 X K c 1 1 [] 1 1 rfl rfl (cr_b _)) $$ Hr Z11 HO; iintro HO Z11
  iapply (chunk4 X K c 1 2 [] 1 2 rfl rfl (cr_b _)) $$ Hr Z12 HO; iintro HO Z12
  iapply (chunk5 X K c 1 0 1 0 rfl rfl (cr_b _) (cr_b _)) $$ Hr X10 HO; iintro HO X10
  iapply (chunk5 X K c 1 1 1 1 rfl rfl (cr_b _) (cr_b _)) $$ Hr X11 HO; iintro HO X11
  iapply (chunk5 X K c 1 2 1 2 rfl rfl (cr_b _) (cr_b _)) $$ Hr X12 HO; iintro HO X12
  iapply (chunk5 X K c 1 3 1 3 rfl rfl (cr_b _) (cr_b _)) $$ Hr X13 HO; iintro HO X13
  iapply (chunk4 X K c 2 0 [] 2 0 rfl rfl (cr_b _)) $$ Hr Z20 HO; iintro HO Z20
  iapply (chunk4 X K c 2 1 [] 2 1 rfl rfl (cr_b _)) $$ Hr Z21 HO; iintro HO Z21
  iapply (chunk4 X K c 2 2 [] 2 2 rfl rfl (cr_b _)) $$ Hr Z22 HO; iintro HO Z22
  iapply (chunk5 X K c 2 0 2 0 rfl rfl (cr_b _) (cr_b _)) $$ Hr X20 HO; iintro HO X20
  iapply (chunk5 X K c 2 1 2 1 rfl rfl (cr_b _) (cr_b _)) $$ Hr X21 HO; iintro HO X21
  iapply (chunk5 X K c 2 2 2 2 rfl rfl (cr_b _) (cr_b _)) $$ Hr X22 HO; iintro HO X22
  iapply (chunk5 X K c 2 3 2 3 rfl rfl (cr_b _) (cr_b _)) $$ Hr X23 HO; iintro HO X23
  iapply (chunk4 X K c 3 0 [] 3 0 rfl rfl (cr_b _)) $$ Hr Z30 HO; iintro HO Z30
  iapply (chunk4 X K c 3 1 [] 3 1 rfl rfl (cr_b _)) $$ Hr Z31 HO; iintro HO Z31
  iapply (chunk4 X K c 3 2 [] 3 2 rfl rfl (cr_b _)) $$ Hr Z32 HO; iintro HO Z32
  iapply (chunk5 X K c 3 0 3 0 rfl rfl (cr_b _) (cr_b _)) $$ Hr X30 HO; iintro HO X30
  iapply (chunk5 X K c 3 1 3 1 rfl rfl (cr_b _) (cr_b _)) $$ Hr X31 HO; iintro HO X31
  iapply (chunk5 X K c 3 2 3 2 rfl rfl (cr_b _) (cr_b _)) $$ Hr X32 HO; iintro HO X32
  iapply (chunk5 X K c 3 3 3 3 rfl rfl (cr_b _) (cr_b _)) $$ Hr X33 HO; iintro HO X33
  unfold Wp
  rw [wp_ret]
  iapply Hk
  unfold Post
  rw [big43, big43, big44, big4]
  isplitl [HO]; · iexact HO
  isplitl [Hbar]; · iexact Hbar
  isplitl [Y00 Y01 Y02 Y10 Y11 Y12 Y20 Y21 Y22 Y30 Y31 Y32]
  · skip
    isplitl [Y00]; · iexact Y00
    isplitl [Y01]; · iexact Y01
    isplitl [Y02]; · iexact Y02
    isplitl [Y10]; · iexact Y10
    isplitl [Y11]; · iexact Y11
    isplitl [Y12]; · iexact Y12
    isplitl [Y20]; · iexact Y20
    isplitl [Y21]; · iexact Y21
    isplitl [Y22]; · iexact Y22
    isplitl [Y30]; · iexact Y30
    isplitl [Y31]; · iexact Y31
    iexact Y32
  isplitl [C03 C13 C23 C33]
  · skip
    isplitl [C03]; · iexact C03
    isplitl [C13]; · iexact C13
    isplitl [C23]; · iexact C23
    iexact C33
  isplitl [Z00 Z01 Z02 Z10 Z11 Z12 Z20 Z21 Z22 Z30 Z31 Z32]
  · skip
    isplitl [Z00]; · iexact Z00
    isplitl [Z01]; · iexact Z01
    isplitl [Z02]; · iexact Z02
    isplitl [Z10]; · iexact Z10
    isplitl [Z11]; · iexact Z11
    isplitl [Z12]; · iexact Z12
    isplitl [Z20]; · iexact Z20
    isplitl [Z21]; · iexact Z21
    isplitl [Z22]; · iexact Z22
    isplitl [Z30]; · iexact Z30
    isplitl [Z31]; · iexact Z31
    iexact Z32
  isplitl [X00]; · iexact X00
  isplitl [X01]; · iexact X01
  isplitl [X02]; · iexact X02
  isplitl [X03]; · iexact X03
  isplitl [X10]; · iexact X10
  isplitl [X11]; · iexact X11
  isplitl [X12]; · iexact X12
  isplitl [X13]; · iexact X13
  isplitl [X20]; · iexact X20
  isplitl [X21]; · iexact X21
  isplitl [X22]; · iexact X22
  isplitl [X23]; · iexact X23
  isplitl [X30]; · iexact X30
  isplitl [X31]; · iexact X31
  isplitl [X32]; · iexact X32
  iexact X33

end Cert.KernelIdeal.Proof

end
-- ==== Proof.Split.lean ====
/-
# `Split`: a device's buffers in pieces, and its semaphores one by one

What a device holds when the kernel's body starts — its buffers whole, its semaphores open, the
tokens and credits dealt to it — is what the body's triple asks for; what the triple leaves is the
buffers whole again, the output block at its final contents, and every semaphore closed.
-/
module

public import proofs.«01_k».proof.Proof.Body
public import Idealize.ShloMosaic.Lib.Ring.FamCut
public import Idealize.ShloMosaic.Lib.Rounds.Family

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the sites and the semaphores, regrouped -/

/-- The semaphores the kernel allocates: all but the barrier. -/
abbrev Own : Type := {k : Cell // k ≠ .bar}
def ownEquiv : (Fin 4 × Fin 4) ⊕ Site ⊕ Site ≃ Own where
  toFun | .inl p => ⟨.cp p.1 p.2, nofun⟩ | .inr (.inl s) => ⟨.snd s, nofun⟩ | .inr (.inr s) => ⟨.rcv s, nofun⟩
  invFun | ⟨.bar, h⟩ => absurd rfl h | ⟨.cp h t, _⟩ => .inl (h, t) | ⟨.snd s, _⟩ => .inr (.inl s) | ⟨.rcv s, _⟩ => .inr (.inr s)
  left_inv | .inl _ => rfl | .inr (.inl _) => rfl | .inr (.inr _) => rfl
  right_inv | ⟨.bar, h⟩ => absurd rfl h | ⟨.cp _ _, _⟩ => rfl | ⟨.snd _, _⟩ => rfl | ⟨.rcv _, _⟩ => rfl

/-- The four by four pairs: those with second entry zero and the others, -/
def colEquiv : Fin 4 ⊕ Fin 4 × Fin 3 ≃ Fin 4 × Fin 4 where
  toFun | .inl h => (h, 0) | .inr p => (p.1, p.2.succ)
  invFun p := if h : p.2 = 0 then .inl p.1 else .inr (p.1, p.2.pred h)
  left_inv := by decide
  right_inv := by decide
/-- or those with second entry three and the others. -/
def colEquiv' : Fin 4 × Fin 3 ⊕ Fin 4 ≃ Fin 4 × Fin 4 where
  toFun | .inl p => (p.1, p.2.castSucc) | .inr h => (h, 3)
  invFun p := if h : p.2.val < 3 then .inl (p.1, ⟨p.2.val, h⟩) else .inr p.1
  left_inv := by decide
  right_inv := by decide

section Regroup
omit [FloatOps F]

theorem sum2 {A B : Type} [Fintype A] [Fintype B] (Φ : A ⊕ B → sProp 𝕄) :
    bigSep Finset.univ Φ = iprop(bigSep Finset.univ (fun a => Φ (.inl a)) ∗ bigSep Finset.univ (fun b => Φ (.inr b))) := bigSep_univ_sum Φ

theorem big_own (Φ : Own → sProp 𝕄) : bigSep Finset.univ Φ
    = iprop((bigSep Finset.univ fun p : Fin 4 × Fin 4 => Φ (ownEquiv (.inl p))) ∗ (bigSep Finset.univ fun s : Site => Φ (ownEquiv (.inr (.inl s))))
      ∗ bigSep Finset.univ fun s : Site => Φ (ownEquiv (.inr (.inr s)))) := by
  rw [bigSep_univ_equiv ownEquiv, sum2, sum2]
theorem big_site (Φ : Site → sProp 𝕄) : bigSep Finset.univ Φ
    = iprop((bigSep Finset.univ fun p : Fin 4 × Fin 3 => Φ (.y p.1 p.2)) ∗ (bigSep Finset.univ fun p : Fin 4 × Fin 3 => Φ (.z p.1 p.2))
      ∗ bigSep Finset.univ fun p : Fin 4 × Fin 4 => Φ (.x p.1 p.2)) := by
  rw [bigSep_univ_equiv siteEquiv, sum2, sum2]; rfl
theorem big_first (Φ : Fin 4 × Fin 4 → sProp 𝕄) : bigSep Finset.univ Φ
    = iprop((bigSep Finset.univ fun h : Fin 4 => Φ (h, 0)) ∗ bigSep Finset.univ fun p : Fin 4 × Fin 3 => Φ (p.1, p.2.succ)) := by
  rw [bigSep_univ_equiv colEquiv, sum2]; rfl
theorem big_last (Φ : Fin 4 × Fin 4 → sProp 𝕄) : bigSep Finset.univ Φ
    = iprop((bigSep Finset.univ fun p : Fin 4 × Fin 3 => Φ (p.1, p.2.castSucc)) ∗ bigSep Finset.univ fun h : Fin 4 => Φ (h, 3)) := by
  rw [bigSep_univ_equiv colEquiv', sum2]; rfl
theorem big_pairs (Φ : Fin 4 × Fin 3 → sProp 𝕄) : bigSep Finset.univ Φ
    = bigSep Finset.univ fun h : Fin 4 => iprop(Φ (h, 0) ∗ Φ (h, 1) ∗ Φ (h, 2)) := by
  rw [bigSep_univ_prod]
  exact bigSep_congr fun h _ => bigSep_univ_eq_bigSepL [0, 1, 2] (by decide) (by decide) (fun j : Fin 3 => Φ (h, j))

end Regroup

/-! ## The tiles of each buffer -/

theorem ro_x (c : Dev nD) (t : ℕ) : ro (xTo c) t = 1024 * ((c.val % 4 + 4 - t) % 4) + 512 * ((c.val / 16 + 1) % 2) := by
  have := dlt c; unfold ro; simp only [xTo]; omega

/-- The tiles of the output block: the rows of the device's own half, and of the other. -/
def oTile (c : Dev nD) : (Fin 4 × Fin 4) ⊕ (Fin 4 × Fin 4) → Finset S4096x1024.Idx
  | .inl p => oSet (ro c p.2.val) (256 * p.1.val)
  | .inr p => oSet (ro (xTo c) p.2.val) (256 * p.1.val)
/-- The tiles of the input a device reads. -/
def xTile (c : Dev nD) (p : Fin 4 × Fin 4) : Finset S4096x4096.Idx := xSet (ro c 0) (co c p.2.val p.1.val)
def bTile (p : Fin 4 × Fin 3) : Finset S4x3x512x256.Idx := bSet p.1.val p.2.val
def sTile (p : Fin 4 × Fin 4) : Finset S4x4x512x256.Idx := sSet p.1.val p.2.val

theorem oTile_disj (c : Dev nD) (b b') (hne : b ≠ b') : Disjoint (oTile c b) (oTile c b') := by
  rw [Finset.disjoint_left]
  intro i h h'
  have := dlt c
  apply hne
  rcases b with ⟨a, t⟩ | ⟨a, t⟩ <;> rcases b' with ⟨a', t'⟩ | ⟨a', t'⟩ <;>
    simp only [oTile, oSet, Finset.mem_filter, ro_x, Sum.inl.injEq, Sum.inr.injEq, Prod.mk.injEq, Fin.ext_iff, reduceCtorEq] at h h' ⊢ <;>
    (try unfold ro at h) <;> (try unfold ro at h') <;> omega
theorem oTile_cover (c : Dev nD) : Finset.univ.biUnion (oTile c) = Finset.univ := by
  ext i
  have h0 : (i 0).val < 4096 := (i 0).isLt
  have h1 : (i 1).val < 1024 := (i 1).isLt
  have := dlt c
  refine ⟨fun _ => Finset.mem_univ _, fun _ => Finset.mem_biUnion.mpr ?_⟩
  by_cases hx : (i 0).val / 512 % 2 = c.val / 16
  · refine ⟨.inl (⟨(i 1).val / 256, by omega⟩, ⟨(c.val % 4 + 4 - (i 0).val / 1024) % 4, by omega⟩), Finset.mem_univ _, ?_⟩
    refine Finset.mem_filter.mpr ⟨Finset.mem_univ _, ?_⟩
    have hq : (c.val % 4 + 4 - (c.val % 4 + 4 - (i 0).val / 1024) % 4) % 4 = (i 0).val / 1024 := by omega
    simp only [ro, hq]
    omega
  · refine ⟨.inr (⟨(i 1).val / 256, by omega⟩, ⟨(c.val % 4 + 4 - (i 0).val / 1024) % 4, by omega⟩), Finset.mem_univ _, ?_⟩
    refine Finset.mem_filter.mpr ⟨Finset.mem_univ _, ?_⟩
    have hq : (c.val % 4 + 4 - (c.val % 4 + 4 - (i 0).val / 1024) % 4) % 4 = (i 0).val / 1024 := by omega
    simp only [ro_x, hq]
    omega
theorem xTile_disj (c : Dev nD) (p p') (hne : p ≠ p') : Disjoint (xTile c p) (xTile c p') := by
  rw [Finset.disjoint_left]
  intro i h h'
  have := dlt c
  apply hne
  rcases p with ⟨a, t⟩; rcases p' with ⟨a', t'⟩
  have h := (Finset.mem_filter.mp h).2.2
  have h' := (Finset.mem_filter.mp h').2.2
  have ha := a.isLt; have ha' := a'.isLt; have ht := t.isLt; have ht' := t'.isLt
  simp only [co] at h h'
  rw [Prod.mk.injEq, Fin.ext_iff, Fin.ext_iff]
  have hq : (c.val / 4 % 4 + t.val + 1) % 4 = (c.val / 4 % 4 + t'.val + 1) % 4 := by omega
  omega
theorem bTile_disj (p p') (hne : p ≠ p') : Disjoint (bTile p) (bTile p') := by
  rw [Finset.disjoint_left]
  intro i h h'
  apply hne
  rcases p with ⟨a, t⟩; rcases p' with ⟨a', t'⟩
  simp only [bTile, bSet, Finset.mem_filter, Prod.mk.injEq, Fin.ext_iff] at h h' ⊢
  omega
theorem sTile_disj (p p') (hne : p ≠ p') : Disjoint (sTile p) (sTile p') := by
  rw [Finset.disjoint_left]
  intro i h h'
  apply hne
  rcases p with ⟨a, t⟩; rcases p' with ⟨a', t'⟩
  simp only [sTile, sSet, Finset.mem_filter, Prod.mk.injEq, Fin.ext_iff] at h h' ⊢
  omega

section Buffers
variable (X : Dev nD → XT F)

/-- A buffer whole at some contents, -/
def someO (c : Dev nD) : sProp 𝕄 := iprop(∃ f : OT F, ((c : Thread nD τ).loc cc0_stg0_0) ↦{fullShare} f)
def someB (c : Dev nD) : sProp 𝕄 := iprop(∃ f : BT F, ((c : Thread nD τ).loc cc0_scratch0) ↦{fullShare} f)
def someR (c : Dev nD) : sProp 𝕄 := iprop(∃ f : BT F, ((c : Thread nD τ).loc cc0_scratch1) ↦{fullShare} f)
def someS (c : Dev nD) : sProp 𝕄 := iprop(∃ f : ST F, ((c : Thread nD τ).loc cc0_scratch2) ↦{fullShare} f)
/-- the output block finished, -/
def fullO (c : Dev nD) : sProp 𝕄 := ((c : Thread nD τ).loc cc0_stg0_0) ↦{fullShare} outF X c
/-- the input whole, -/
def fullX (c : Dev nD) : sProp 𝕄 := ((c : Thread nD τ).loc main_v1) ↦{fullShare} X c
/-- and what of the tile buffers and of the input is no tile of the protocol's. -/
def remB (c : Dev nD) : sProp 𝕄 := iprop(∃ f : BT F, ((c : Thread nD τ).loc cc0_scratch0) ↦[Ring.restOf (ℓ := (c : Thread nD τ).loc cc0_scratch0) bTile]{fullShare} f)
def remR (c : Dev nD) : sProp 𝕄 := iprop(∃ f : BT F, ((c : Thread nD τ).loc cc0_scratch1) ↦[Ring.restOf (ℓ := (c : Thread nD τ).loc cc0_scratch1) bTile]{fullShare} f)
def remS (c : Dev nD) : sProp 𝕄 := iprop(∃ f : ST F, ((c : Thread nD τ).loc cc0_scratch2) ↦[Ring.restOf (ℓ := (c : Thread nD τ).loc cc0_scratch2) sTile]{fullShare} f)
def remX (c : Dev nD) : sProp 𝕄 := ((c : Thread nD τ).loc main_v1) ↦[Ring.restOf (ℓ := (c : Thread nD τ).loc main_v1) (xTile c)]{fullShare} X c

omit [FloatOps F] in
theorem splitO (c : Dev nD) : someO (F := F) c
    ⊢ iprop((bigSep Finset.univ fun h : Fin 4 => iprop(∃ f, oP c fullShare (ro c 0) h.val f))
      ∗ (bigSep Finset.univ fun p : Fin 4 × Fin 3 => iprop(∃ f, oP c fullShare (ro c (p.2.val + 1)) p.1.val f))
      ∗ bigSep Finset.univ fun p : Fin 4 × Fin 4 => iprop(∃ f, oP c fullShare (ro (xTo c) p.2.val) p.1.val f)) := by
  unfold someO
  iintro H
  ihave H' := (Ring.fam_split_ex (ℓ := (c : Thread nD τ).loc cc0_stg0_0) (oTile c) (oTile_disj c) (q := fullShare) (Val := Elt F) (Ix := Unit) (Name := ℕ) (U := UU) (Lvl := ℕ)) $$ H
  icases H' with ⟨H, -⟩
  ihave H' := (Entails.of_eq (sum2 (F := F) fun b => iprop(∃ f : OT F, ((c : Thread nD τ).loc cc0_stg0_0) ↦[oTile c b]{fullShare} f))) $$ H
  icases H' with ⟨H, Hx⟩
  ihave H' := (Entails.of_eq (big_first (F := F) fun p => iprop(∃ f : OT F, ((c : Thread nD τ).loc cc0_stg0_0) ↦[oTile c (.inl p)]{fullShare} f))) $$ H
  icases H' with ⟨Ho, Hz⟩
  isplitl [Ho]; · iexact Ho
  isplitl [Hz]; · iexact Hz
  iexact Hx

theorem joinO (c : Dev nD) :
    iprop((bigSep Finset.univ fun h : Fin 4 => oP c fullShare (ro c 0) h.val (outF X c))
      ∗ (bigSep Finset.univ fun p : Fin 4 × Fin 3 => oP c fullShare (ro c (p.2.val + 1)) p.1.val (outF X c))
      ∗ bigSep Finset.univ fun p : Fin 4 × Fin 4 => oP c fullShare (ro (xTo c) p.2.val) p.1.val (outF X c)) ⊢ fullO X c := by
  have e : fullO X c = bigSep Finset.univ fun b => (((c : Thread nD τ).loc cc0_stg0_0) ↦[oTile c b]{fullShare} outF X c : sProp 𝕄) := by
    unfold fullO
    rw [← pointsTo_biUnion (ℓ := (c : Thread nD τ).loc cc0_stg0_0) Finset.univ (oTile c) fun b _ b' _ h => oTile_disj c b b' h, oTile_cover]
  rw [e, sum2, big_first fun p => (((c : Thread nD τ).loc cc0_stg0_0) ↦[oTile c (.inl p)]{fullShare} outF X c : sProp 𝕄)]
  iintro ⟨Ho, Hz, Hx⟩
  isplitr [Hx]
  · isplitl [Ho]; · iexact Ho
    iexact Hz
  iexact Hx

omit [FloatOps F] in
theorem splitB (c : Dev nD) : someB (F := F) c ⊢ iprop((bigSep Finset.univ fun p : Fin 4 × Fin 3 => iprop(∃ f, bP c p.1.val p.2.val f)) ∗ remB c) :=
  Ring.fam_split_ex (ℓ := (c : Thread nD τ).loc cc0_scratch0) bTile bTile_disj
omit [FloatOps F] in
theorem splitR (c : Dev nD) : someR (F := F) c ⊢ iprop((bigSep Finset.univ fun p : Fin 4 × Fin 3 => iprop(∃ f, rP c p.1.val p.2.val f)) ∗ remR c) :=
  Ring.fam_split_ex (ℓ := (c : Thread nD τ).loc cc0_scratch1) bTile bTile_disj
omit [FloatOps F] in
theorem splitS (c : Dev nD) : someS (F := F) c ⊢ iprop((bigSep Finset.univ fun p : Fin 4 × Fin 4 => iprop(∃ f, sP c p.1.val p.2.val f)) ∗ remS c) :=
  Ring.fam_split_ex (ℓ := (c : Thread nD τ).loc cc0_scratch2) sTile sTile_disj
theorem joinB (c : Dev nD) : iprop((bigSep Finset.univ fun p : Fin 4 × Fin 3 => bP c p.1.val p.2.val (ybS X c)) ∗ remB c) ⊢ someB (F := F) c :=
  (sep_mono_left (bigSep_mono fun p _ => Ring.pointsTo_exists (ℓ := (c : Thread nD τ).loc cc0_scratch0) (bTile p) (ybS X c))).trans
    (Ring.fam_join (ℓ := (c : Thread nD τ).loc cc0_scratch0) bTile bTile_disj (ybS X c))
theorem joinR (c : Dev nD) : iprop((bigSep Finset.univ fun p : Fin 4 × Fin 3 => rP c p.1.val p.2.val (ybR X c)) ∗ remR c) ⊢ someR (F := F) c :=
  (sep_mono_left (bigSep_mono fun p _ => Ring.pointsTo_exists (ℓ := (c : Thread nD τ).loc cc0_scratch1) (bTile p) (ybR X c))).trans
    (Ring.fam_join (ℓ := (c : Thread nD τ).loc cc0_scratch1) bTile bTile_disj (ybR X c))
theorem joinS (c : Dev nD) : iprop((bigSep Finset.univ fun p : Fin 4 × Fin 4 => sP c p.1.val p.2.val (stg X c)) ∗ remS c) ⊢ someS (F := F) c :=
  (sep_mono_left (bigSep_mono fun p _ => Ring.pointsTo_exists (ℓ := (c : Thread nD τ).loc cc0_scratch2) (sTile p) (stg X c))).trans
    (Ring.fam_join (ℓ := (c : Thread nD τ).loc cc0_scratch2) sTile sTile_disj (stg X c))
omit [FloatOps F] in
theorem splitX (c : Dev nD) : fullX X c
    ⊣⊢ iprop((bigSep Finset.univ fun p : Fin 4 × Fin 4 => xP c (ro c 0) (co c p.2.val p.1.val) (X c)) ∗ remX X c) := by
  have e : (bigSep Finset.univ fun p : Fin 4 × Fin 4 => xP c (ro c 0) (co c p.2.val p.1.val) (X c))
      = (((c : Thread nD τ).loc main_v1) ↦[Finset.univ.biUnion (xTile c)]{fullShare} X c : sProp 𝕄) :=
    (pointsTo_biUnion (ℓ := (c : Thread nD τ).loc main_v1) Finset.univ (xTile c) fun b _ b' _ h => xTile_disj c b b' h).symm
  rw [e]
  exact pointsTo_split_subset (Finset.subset_univ _)

/-! ## Entering the body -/

/-- The tokens of the duties device `c` pays: the barrier signals, its copies' departures and arrivals. -/
def toks (c : Dev nD) : sProp 𝕄 :=
  iprop((bigSep Finset.univ fun d : Fin 7 => tok (barTo d c) .bar d) ∗ (bigSep Finset.univ fun p : Fin 4 × Fin 4 => tok c (.cp p.1 p.2) 0)
    ∗ (bigSep Finset.univ fun s : Site => tok c (.snd s) 0) ∗ bigSep Finset.univ fun s : Site => tok (s.to c) (.rcv s) 0)
/-- The credits dealt to it: for its barrier and for the copies arriving. -/
def crds (c : Dev nD) : sProp 𝕄 :=
  iprop(cred (tallyAt (gcell c .bar) () 7) ∗ bigSep Finset.univ fun s : Site => crd c (.rcv s))
/-- Its semaphores open. -/
def opens (c : Dev nD) : sProp 𝕄 :=
  iprop(opn c .bar ∗ bigSep Finset.univ fun k : Own => iprop(opn c k.1 ∗ rch c k.1))

/-- What the body leaves aside. -/
def aside (c : Dev nD) : sProp 𝕄 := iprop(remB c ∗ remR c ∗ remS c ∗ remX X c)

omit [FloatOps F] in
theorem land_sites (c : Dev nD) :
    iprop((bigSep Finset.univ fun p : Fin 4 × Fin 3 => iprop(∃ f, rP c p.1.val p.2.val f))
      ∗ (bigSep Finset.univ fun p : Fin 4 × Fin 3 => iprop(∃ f, oP c fullShare (ro c (p.2.val + 1)) p.1.val f))
      ∗ (bigSep Finset.univ fun p : Fin 4 × Fin 4 => iprop(∃ f, oP c fullShare (ro (xTo c) p.2.val) p.1.val f))
      ∗ bigSep Finset.univ fun s : Site => rch c (.rcv s)) ⊢ bigSep Finset.univ fun s : Site => landAny (F := F) c s := by
  rw [big_site fun s => rch c (.rcv s), big_site fun s => landAny (F := F) c s]
  iintro ⟨Hy, Hz, Hx, Ry, Rz, Rx⟩
  isplitl [Hy Ry]
  · iapply (show iprop((bigSep Finset.univ fun p : Fin 4 × Fin 3 => iprop(∃ f, rP c p.1.val p.2.val f)) ∗ bigSep Finset.univ fun p : Fin 4 × Fin 3 => rch c (.rcv (.y p.1 p.2)))
      ⊢ bigSep Finset.univ fun p : Fin 4 × Fin 3 => landAny (F := F) c (.y p.1 p.2) from Entails.of_eq (bigSep_sep' _ _ _).symm)
    isplitl [Hy] <;> iassumption
  isplitl [Hz Rz]
  · iapply (show iprop((bigSep Finset.univ fun p : Fin 4 × Fin 3 => iprop(∃ f, oP c fullShare (ro c (p.2.val + 1)) p.1.val f)) ∗ bigSep Finset.univ fun p : Fin 4 × Fin 3 => rch c (.rcv (.z p.1 p.2)))
      ⊢ bigSep Finset.univ fun p : Fin 4 × Fin 3 => landAny (F := F) c (.z p.1 p.2) from Entails.of_eq (bigSep_sep' _ _ _).symm)
    isplitl [Hz] <;> iassumption
  iapply (show iprop((bigSep Finset.univ fun p : Fin 4 × Fin 4 => iprop(∃ f, oP c fullShare (ro (xTo c) p.2.val) p.1.val f)) ∗ bigSep Finset.univ fun p : Fin 4 × Fin 4 => rch c (.rcv (.x p.1 p.2)))
    ⊢ bigSep Finset.univ fun p : Fin 4 × Fin 4 => landAny (F := F) c (.x p.1 p.2) from Entails.of_eq (bigSep_sep' _ _ _).symm)
  isplitl [Hx] <;> iassumption

omit [FloatOps F] in
/-- The semaphores open, kind by kind. -/
theorem opens_split (c : Dev nD) : opens (F := F) c
    ⊢ iprop(opn c .bar ∗ ((bigSep Finset.univ fun p : Fin 4 × Fin 4 => opn c (.cp p.1 p.2)) ∗ bigSep Finset.univ fun p : Fin 4 × Fin 4 => rch c (.cp p.1 p.2))
      ∗ ((bigSep Finset.univ fun s : Site => opn c (.snd s)) ∗ bigSep Finset.univ fun s : Site => rch c (.snd s))
      ∗ (bigSep Finset.univ fun s : Site => opn c (.rcv s)) ∗ bigSep Finset.univ fun s : Site => rch c (.rcv s)) := by
  unfold opens
  rw [big_own, bigSep_sep', bigSep_sep', bigSep_sep']
  iintro H; iexact H

theorem enter (c : Dev nD) :
    iprop(owesL c (rest 0) ∗ toks c ∗ crds c ∗ opens c ∗ someO c ∗ someB c ∗ someR c ∗ someS c ∗ fullX X c) ⊢ iprop(Pre X c ∗ aside X c) := by
  unfold toks crds
  iintro ⟨HO, ⟨Tb, Tc, Ts, Tr⟩, ⟨Cb, Cr⟩, Hop, Ho, Hb, Hr, Hs, Hx⟩
  ihave Hop := (opens_split c) $$ Hop
  icases Hop with ⟨Ob, ⟨Oc, Rc⟩, ⟨Os, Rs⟩, Or, Rr⟩
  ihave Ho := (splitO c) $$ Ho
  icases Ho with ⟨Ho, Hz, Hxx⟩
  ihave Hb := (splitB c) $$ Hb
  icases Hb with ⟨Hb, Eb⟩
  ihave Hr := (splitR c) $$ Hr
  icases Hr with ⟨Hr, Er⟩
  ihave Hs := (splitS c) $$ Hs
  icases Hs with ⟨Hs, Es⟩
  ihave Hx := (splitX X c).1 $$ Hx
  icases Hx with ⟨Hx, Ex⟩
  isplitr [Eb Er Es Ex]
  · unfold Pre
    isplitl [HO]; · iexact HO
    isplitl [Tb]; · iexact Tb
    isplitl [Ob]; · iexact Ob
    isplitl [Cb]; · iexact Cb
    isplitl [Hr Hz Hxx Rr]
    · iapply (land_sites c)
      isplitl [Hr]; · iexact Hr
      isplitl [Hz]; · iexact Hz
      isplitl [Hxx]; · iexact Hxx
      iexact Rr
    isplitl [Ts Rs Os Or Cr Tr]
    · unfold Sx
      iapply (Entails.of_eq (show _ = iprop((bigSep Finset.univ fun s : Site => tok c (.snd s) 0) ∗ (bigSep Finset.univ fun s : Site => rch c (.snd s))
          ∗ (bigSep Finset.univ fun s : Site => opn c (.snd s)) ∗ (bigSep Finset.univ fun s : Site => opn c (.rcv s))
          ∗ (bigSep Finset.univ fun s : Site => crd c (.rcv s)) ∗ bigSep Finset.univ fun s : Site => tok (s.to c) (.rcv s) 0)
        by rw [bigSep_sep', bigSep_sep', bigSep_sep', bigSep_sep', bigSep_sep']).symm)
      isplitl [Ts]; · iexact Ts
      isplitl [Rs]; · iexact Rs
      isplitl [Os]; · iexact Os
      isplitl [Or]; · iexact Or
      isplitl [Cr] <;> iassumption
    isplitl [Tc Rc Oc Hs Hx]
    · unfold Cp0
      iapply (Entails.of_eq (show _ = iprop((bigSep Finset.univ fun p : Fin 4 × Fin 4 => tok c (.cp p.1 p.2) 0) ∗ (bigSep Finset.univ fun p : Fin 4 × Fin 4 => rch c (.cp p.1 p.2))
          ∗ (bigSep Finset.univ fun p : Fin 4 × Fin 4 => opn c (.cp p.1 p.2)) ∗ (bigSep Finset.univ fun p : Fin 4 × Fin 4 => iprop(∃ f, sP c p.1.val p.2.val f))
          ∗ bigSep Finset.univ fun p : Fin 4 × Fin 4 => xP c (ro c 0) (co c p.2.val p.1.val) (X c))
        by rw [bigSep_sep', bigSep_sep', bigSep_sep', bigSep_sep']).symm)
      isplitl [Tc]; · iexact Tc
      isplitl [Rc]; · iexact Rc
      isplitl [Oc]; · iexact Oc
      isplitl [Hs] <;> iassumption
    isplitl [Hb]; · iexact Hb
    iexact Ho
  unfold aside
  isplitl [Eb]; · iexact Eb
  isplitl [Er]; · iexact Er
  isplitl [Es] <;> iassumption

/-! ## Leaving it -/

omit [FloatOps F] in
/-- All the semaphores of a device after their one round, kind by kind. -/
theorem dons (c : Dev nD) :
    iprop((bigSep Finset.univ fun p : Fin 4 × Fin 4 => don (F := F) c (.cp p.1 p.2)) ∗ (bigSep Finset.univ fun p : Fin 4 × Fin 3 => S3 c (.y p.1 p.2))
      ∗ (bigSep Finset.univ fun p : Fin 4 × Fin 3 => S3 c (.z p.1 p.2)) ∗ bigSep Finset.univ fun p : Fin 4 × Fin 4 => S3 c (.x p.1 p.2))
      ⊢ bigSep Finset.univ fun k : Own => don c k.1 := by
  rw [big_own]
  iintro ⟨Hc, Hs⟩
  ihave Hs := (Entails.of_eq (big_site fun s => S3 (F := F) c s).symm) $$ Hs
  ihave Hs := (Entails.of_eq (show (bigSep Finset.univ fun s : Site => S3 (F := F) c s)
    = iprop((bigSep Finset.univ fun s : Site => don c (.snd s)) ∗ bigSep Finset.univ fun s : Site => don c (.rcv s)) from bigSep_sep' _ _ _)) $$ Hs
  isplitl [Hc]; · iexact Hc
  iexact Hs

theorem leave (c : Dev nD) : iprop(Post X c ∗ aside X c)
    ⊢ iprop(owesL c [] ∗ don c .bar ∗ (bigSep Finset.univ fun k : Own => don c k.1) ∗ fullO X c ∗ someB c ∗ someR c ∗ someS c ∗ fullX X c) := by
  unfold Post aside
  have ey : (bigSep Finset.univ fun p : Fin 4 × Fin 3 => YC X c p.1 p.2 p.2.castSucc)
      = iprop((bigSep Finset.univ fun p : Fin 4 × Fin 3 => Cp2 X c p.1 p.2.castSucc) ∗ (bigSep Finset.univ fun p : Fin 4 × Fin 3 => S3 c (.y p.1 p.2))
        ∗ (bigSep Finset.univ fun p : Fin 4 × Fin 3 => bP c p.1.val p.2.val (ybS X c)) ∗ bigSep Finset.univ fun p : Fin 4 × Fin 3 => rP c p.1.val p.2.val (ybR X c)) := by
    unfold YC; rw [bigSep_sep', bigSep_sep', bigSep_sep']
  have ec : iprop((bigSep Finset.univ fun p : Fin 4 × Fin 3 => Cp2 X c p.1 p.2.castSucc) ∗ bigSep Finset.univ fun h : Fin 4 => Cp2 X c h 3)
      = iprop((bigSep Finset.univ fun p : Fin 4 × Fin 4 => don c (.cp p.1 p.2)) ∗ (bigSep Finset.univ fun p : Fin 4 × Fin 4 => sP c p.1.val p.2.val (stg X c))
        ∗ bigSep Finset.univ fun p : Fin 4 × Fin 4 => xP c (ro c 0) (co c p.2.val p.1.val) (X c)) := by
    rw [← big_last fun p : Fin 4 × Fin 4 => Cp2 X c p.1 p.2]
    unfold Cp2 cpP; rw [bigSep_sep', bigSep_sep']
  have ez : (bigSep Finset.univ fun p : Fin 4 × Fin 3 => ZC X c p.1 p.2)
      = iprop((bigSep Finset.univ fun p : Fin 4 × Fin 3 => S3 c (.z p.1 p.2)) ∗ bigSep Finset.univ fun p : Fin 4 × Fin 3 => srcP X c (.z p.1 p.2)) := by
    unfold ZC; rw [bigSep_sep']
  have ex : (bigSep Finset.univ fun p : Fin 4 × Fin 4 => XC X c p.1 p.2)
      = iprop((bigSep Finset.univ fun p : Fin 4 × Fin 4 => S3 c (.x p.1 p.2)) ∗ (bigSep Finset.univ fun p : Fin 4 × Fin 4 => srcP X c (.x p.1 p.2))
        ∗ bigSep Finset.univ fun p : Fin 4 × Fin 4 => landed X c (.x p.1 p.2)) := by
    unfold XC; rw [bigSep_sep', bigSep_sep']
  have eo : iprop((bigSep Finset.univ fun h : Fin 4 => srcP X c (.x h 0)) ∗ bigSep Finset.univ fun p : Fin 4 × Fin 3 => srcP X c (.z p.1 p.2))
      = bigSep Finset.univ fun h : Fin 4 => oP c fullShare (ro c 0) h.val (outF X c) := by
    rw [big_pairs, ← bigSep_sep']
    exact bigSep_congr fun h _ => (own_split X c h).symm
  rw [ey, ez, ex]
  iintro ⟨⟨HO, Db, ⟨Hc, Sy, Hb, Hr⟩, Hc3, ⟨Sz, Pz⟩, Sx, Px, Lx⟩, Eb, Er, Es, Ex⟩
  ihave Hc := (Entails.of_eq ec) $$ [Hc Hc3]
  · isplitl [Hc] <;> iassumption
  icases Hc with ⟨Dc, Hs, Hx⟩
  ihave Px := (Entails.of_eq (big_first fun p : Fin 4 × Fin 4 => srcP X c (.x p.1 p.2))) $$ Px
  icases Px with ⟨P0, P1⟩
  ihave P0 := (Entails.of_eq eo) $$ [P0 Pz]
  · isplitl [P0] <;> iassumption
  isplitl [HO]; · iexact HO
  isplitl [Db]; · iexact Db
  isplitl [Dc Sy Sz Sx]
  · iapply (dons c)
    isplitl [Dc]; · iexact Dc
    isplitl [Sy]; · iexact Sy
    isplitl [Sz] <;> iassumption
  isplitl [P0 P1 Lx]
  · iapply (joinO X c)
    isplitl [P0]; · iexact P0
    isplitl [P1]
    · iapply (Entails.of_eq (show (bigSep Finset.univ fun p : Fin 4 × Fin 3 => srcP X c (.x p.1 p.2.succ))
        = bigSep Finset.univ fun p : Fin 4 × Fin 3 => oP c fullShare (ro c (p.2.val + 1)) p.1.val (outF X c) from
          bigSep_congr fun p _ => by show oP c (if p.2.val + 1 = 0 then shr 0 else fullShare) _ _ _ = _; rw [if_neg (Nat.succ_ne_zero _)]; rfl))
      iexact P1
    iexact Lx
  isplitl [Hb Eb]
  · iapply (joinB X c)
    isplitl [Hb] <;> iassumption
  isplitl [Hr Er]
  · iapply (joinR X c)
    isplitl [Hr] <;> iassumption
  isplitl [Hs Es]
  · iapply (joinS X c)
    isplitl [Hs] <;> iassumption
  iapply (splitX X c).2
  isplitl [Hx] <;> iassumption

variable (K : Dev nD × Cell → ℕ)

/-- Every semaphore closed, its counter at zero. -/
theorem close_all (c : Dev nD) : iprop(recs X K ∗ don c .bar ∗ bigSep Finset.univ fun k : Own => don c k.1)
    ⊢ (|={Set.univ}=> iprop(semVal (gcell c .bar) 0 ∗ bigSep Finset.univ fun k : Own => semVal (gcell c k.1) 0) : sProp 𝕄) := by
  iintro ⟨#Hr, Hb, Hk⟩
  imod (Rounds.cell_close ER (Rd X) (κ := K (c, .bar)) (g := gcell c .bar) (Set.mem_univ _) (fun h => h) (R := 1) fun r hr => Rd_later X _ r hr) $$ [Hb] with Hb
  · isplitr; · iapply (recs_inv X K c .bar); iexact Hr
    unfold don; iexact Hb
  imod (Rounds.cells_close ER (Rd X) (Finset.univ : Finset Own) (fun k => gcell c k.1) (fun k => K (c, k.1)) (fun k _ => Set.mem_univ _) (fun k _ h => h)
    (fun _ => 1) fun k _ r hr => Rd_later X _ r hr) $$ [Hk] with Hk
  · iapply (bigSep_with_persistent (R := recs X K) (Φ := fun k : Own => don (F := F) c k.1)
      (Ψ := fun k : Own => iprop(cellInv ER (Rd X) (K (c, k.1)) (gcell c k.1) ∗ atPos ER (gcell c k.1) 1 ∅ 0)) fun k _ => by
        iintro ⟨#Hr, Hk⟩
        isplitr; · iapply (recs_inv X K c k.1); iexact Hr
        unfold don; iexact Hk)
    isplitr; · iexact Hr
    iexact Hk
  imodintro
  isplitl [Hb] <;> iassumption

/-! ## The body, from whole buffers to whole buffers -/

theorem body_whole (c : Dev nD) (Kt : PUnit → sProp 𝕄) :
    iprop(recs X K ∗ (owesL c (rest 0) ∗ toks c ∗ crds c ∗ opens c ∗ someO c ∗ someB c ∗ someR c ∗ someS c ∗ fullX X c)
      ∗ ((owesL c [] ∗ semVal (gcell c .bar) 0 ∗ (bigSep Finset.univ fun k : Own => semVal (gcell c k.1) 0)
          ∗ fullO X c ∗ someB c ∗ someR c ∗ someS c ∗ fullX X c) -∗ Kt ⟨⟩))
      ⊢ wp frame (wpE (defs₀ (F := F)) 𝒱₀ c none) Set.univ
      (cc0_body (Memref.whole main_v1) (Memref.isWhole_whole _) (Memref.whole cc0_stg0_0) (Memref.isWhole_whole _) (Memref.whole cc0_scratch0)
        (Memref.isWhole_whole _) (Memref.whole cc0_scratch1) (Memref.isWhole_whole _) (Memref.whole cc0_scratch2) (Memref.isWhole_whole _)
        cc0_scratch3 cc0_scratch4 cc0_scratch5 cc0_scratch6 cc0_scratch7 cc0_scratch8 cc0_scratch9) Kt := by
  iintro ⟨#Hr, H, Hk⟩
  ihave H := (enter X c) $$ H
  icases H with ⟨H, Ha⟩
  iapply (body_run X K c Kt)
  isplitr; · iexact Hr
  isplitl [H]; · iexact H
  iintro HP
  ihave H := (leave X c) $$ [HP Ha]
  · isplitl [HP] <;> iassumption
  icases H with ⟨HO, Db, Dk, H⟩
  imod (close_all X K c) $$ [Db Dk] with ⟨Zb, Zk⟩
  · isplitr; · iexact Hr
    isplitl [Db] <;> iassumption
  imodintro
  iapply Hk
  isplitl [HO]; · iexact HO
  isplitl [Zb]; · iexact Zb
  isplitl [Zk]; · iexact Zk
  iexact H

end Buffers

end Cert.KernelIdeal.Proof

end
-- ==== Proof.Region.lean ====
/-
# `Region`: the kernel's region of the program

The one pallas_call as a region whose kernel talks across devices. The program's launch leaves each
device the invariants, its rights to open its own semaphores, its tokens and its credits; the region
opens the semaphores, runs the body and closes them, and the result array ends at the output block.
-/
module

public import proofs.«01_k».proof.Proof.Split
public import proofs.«01_k».proof.Proof.Gen.KernelIdeal.Frame
public import Idealize.ShloMosaic.Lib.Pipeline.RegionTalk
public import Idealize.ShloMosaic.Lib.Pipeline.Value

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The buffers outside the region -/

/-- A device's buffers at launch, and when the region is entered; its input there. -/
abbrev W₀ (c : Dev nD) : Valuation τ sig (Elt F) := fun b => m (c, b)
abbrev W₁ (c : Dev nD) : Valuation τ sig (Elt F) := StableHlo.after hostOps0 (W₀ m c)
abbrev XX (c : Dev nD) : XT F := V m c main_v1
/-- The buffers when the region is left: the result array holds the output block. -/
def W₂ (c : Dev nD) : Valuation τ sig (Elt F) := Function.update (W₁ m c) (Proc.devRef .tc main_v2) (outF (XX m) c)

abbrev hbm : Finset (DevRef τ sig) := (StableHlo.tcRefs τ sig).filter fun b => ¬ b.isScoped
abbrev inBuf : Finset (DevRef τ sig) := {Proc.devRef .tc main_v1}

theorem hbm_held (c : Dev nD) (W : Valuation τ sig (Elt F)) :
    (unscopedBufs c (fun b => W b) : sProp 𝕄) = StableHlo.held (c : Thread nD τ) hbm W := by
  unfold unscopedBufs StableHlo.held hbm StableHlo.tcRefs
  rw [Finset.filter_map, BI.bigSep_map]
  rfl
theorem hbm_eq (c : Dev nD) (W : Valuation τ sig (Elt F)) : (StableHlo.held (c : Thread nD τ) hbm W : sProp 𝕄)
    = iprop((((c : Thread nD τ).loc main_arg0) ↦{fullShare} W main_arg0) ∗ (((c : Thread nD τ).loc main_v1) ↦{fullShare} W main_v1)
      ∗ (((c : Thread nD τ).loc main_v2) ↦{fullShare} W main_v2)) := by
  unfold StableHlo.held
  rw [bigSep_eq_bigSepL_of_eq [Proc.devRef .tc main_arg0, Proc.devRef .tc main_v1, Proc.devRef .tc main_v2] (by decide) (by decide)]
  rfl
theorem inBuf_eq (c : Dev nD) (W : Valuation τ sig (Elt F)) :
    (StableHlo.held (c.tc : Thread nD τ) inBuf W : sProp 𝕄) = (((c : Thread nD τ).loc main_v1) ↦{fullShare} W main_v1) := by
  unfold StableHlo.held; rw [BI.bigSep_singleton]
theorem arr_eq (c : Dev nD) (W : Valuation τ sig (Elt F)) :
    (StableHlo.held (c.tc : Thread nD τ) (Pipeline.arrRefs (τ := τ) (pcfgs (F := F) 0).spec) W : sProp 𝕄) = (((c : Thread nD τ).loc main_v2) ↦{fullShare} W main_v2) := by
  rw [show Pipeline.arrRefs (τ := τ) (pcfgs (F := F) 0).spec = {Proc.devRef .tc main_v2} from
    (show Pipeline.arrRefs (τ := τ) spec0 = {Proc.devRef .tc main_v2} by decide)]
  unfold StableHlo.held; rw [BI.bigSep_singleton]

theorem W₂_v2 (c : Dev nD) : W₂ m c main_v2 = outF (XX m) c := Function.update_self ..
theorem W₂_v1 (c : Dev nD) : W₂ m c main_v1 = XX m c := Function.update_of_ne (by decide) ..
theorem W₁_arg0 (c : Dev nD) : W₁ m c main_arg0 = m ((c : Thread nD τ).loc main_arg0) := V_main_arg0 m c

/-! ## The semaphores -/

abbrev osem (k : Own) : SemLoc sig := csem k.1
theorem ownFacts : Pipeline.OwnSemFacts spec0 osem where
  isScoped := by decide
  inj := fun a b h => Subtype.ext (csem_injective h)
  disj := by decide

theorem own0_eq (c : Dev nD) : (Pipeline.ownSems0 osem c : sProp 𝕄) = bigSep Finset.univ fun k : Own => semVal (gcell c k.1) 0 := rfl

/-- What every device knows before the levels are assigned, -/
def know (X : Dev nD → XT F) (K : Dev nD × Cell → ℕ) : sProp 𝕄 :=
  iprop((bigSep Finset.univ fun ck : Dev nD × Cell => cellInv ER (Rd X) (K ck) (gcell ck.1 ck.2))
    ∗ bigSep Finset.univ fun c : Dev nD => reached ER (gcell c .bar) 0)
instance know_persistent (X : Dev nD → XT F) (K : Dev nD × Cell → ℕ) : Persistent (know X K) := by unfold know; infer_instance
/-- what a device brings to the region, -/
def Tk (c : Dev nD) : sProp 𝕄 :=
  iprop((∃ K, know (XX m) K) ∗ opn c .bar ∗ (bigSep Finset.univ fun k : Own => openTok ER (gcell c k.1)) ∗ toks c ∗ crds c)
/-- and the same with the semaphores open. -/
def Xk (c : Dev nD) : sProp 𝕄 := iprop((∃ K, recs (XX m) K) ∗ opens c ∗ toks c ∗ crds c)
/-- What it takes away. -/
def Yk (c : Dev nD) : sProp 𝕄 := semVal (gcell c .bar) 0

theorem open_own (c : Dev nD) : iprop(Tk m c ∗ Pipeline.ownSems0 osem c ∗ levAts L lv) ⊢ (|={Set.univ}=> Xk m c : sProp 𝕄) := by
  rw [own0_eq]
  unfold Tk Xk
  iintro ⟨⟨⟨%K, #Hk⟩, Hb, Ho, Ht, Hc⟩, Hz, #Hl⟩
  ihave #Hr := (show iprop(know (XX m) K ∗ levAts L lv) ⊢ recs (XX m) K from by
    unfold know recs
    iintro ⟨⟨Ha, Hb⟩, Hl⟩
    isplitl [Ha]; · iexact Ha
    isplitl [Hb] <;> iassumption) $$ []
  · isplitl [] <;> iassumption
  imod (Rounds.cells_open ER (Rd (XX m)) (Finset.univ : Finset Own) (fun k => gcell c k.1) (fun k => K (c, k.1)) (fun k _ => Set.mem_univ _)) $$ [Ho Hz] with Hop
  · isplitl [Ho]
    · iapply (bigSep_with_persistent (R := recs (XX m) K) (Φ := fun k : Own => openTok ER (gcell c k.1))
        (Ψ := fun k : Own => iprop(cellInv ER (Rd (XX m)) (K (c, k.1)) (gcell c k.1) ∗ openTok ER (gcell c k.1))) fun k _ => by
          iintro ⟨#Hr, Hk⟩
          isplitr; · iapply (recs_inv (XX m) K c k.1); iexact Hr
          iexact Hk)
      isplitr; · iexact Hr
      iexact Ho
    iexact Hz
  imodintro
  isplitr; · iexists K; iexact Hr
  isplitl [Hb Hop]
  · unfold opens
    isplitl [Hb]; · iexact Hb
    iexact Hop
  isplitl [Ht] <;> iassumption

/-! ## The region's data -/

/-- A device before the body, and after it. -/
def Φ₀ (c : Dev nD) : sProp 𝕄 := iprop(Xk m c ∗ fullX (XX m) c ∗ (someB c ∗ someR c ∗ someS c) ∗ ∃ r, prngReg c r)
def Φ₁ (c : Dev nD) : sProp 𝕄 :=
  iprop((Yk c ∗ Pipeline.ownSems0 osem c) ∗ fullX (XX m) c ∗ (someB c ∗ someR c ∗ someS c) ∗ ∃ r, prngReg c r)

def dat (c : Dev nD) : Dat τ (Elt F) Unit ℕ UU ℕ cfg0 c where
  A w := V m c (Pipeline.arrRef spec0 w)
  after w _ := match w with
    | ⟨0, _⟩ => outF (XX m) c
  Φ t := match t with
    | ⟨0, _⟩ => Φ₀ m c
    | ⟨_ + 1, _⟩ => Φ₁ m c
  q _ := fullShare
  owed t := match t with
    | ⟨0, _⟩ => owe c pays
    | ⟨_ + 1, _⟩ => 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ => dat m

theorem owns_buf (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ (((c : Thread nD τ).loc b) ↦{fullShare} g)) := by
  unfold owns; simp only [Memref.view_whole, View.read_whole, View.set_whole]

/-- What a core owes, recorded anywhere. -/
theorem owesL_in (c : Dev nD) (t : Fin (cfg0.N + 1)) (l : List Pay) (h : (dat m c).owed t = owe c l) : owesL c l ⊢ ((dat m c).owesAt () t : sProp 𝕄) := by
  unfold owesL Dat.owesAt Pipeline.owesWithin
  rw [h]
  iintro ⟨%W, H⟩
  iexists W
  isplitr; · ipureintro; exact fun _ _ => Or.inl trivial
  iexact H
theorem owesL_out (c : Dev nD) (t : Fin (cfg0.N + 1)) (l : List Pay) (h : (dat m c).owed t = owe c l) : ((dat m c).owesAt () t : sProp 𝕄) ⊢ owesL c l := by
  unfold owesL Dat.owesAt Pipeline.owesWithin
  rw [h]
  iintro ⟨%W, -, H⟩
  iexists W; iexact H

set_option maxRecDepth 16384 in
theorem body_ok (c : Dev nD) : BodyObligation (dat m c) (defs₀ (F := F)) 𝒱₀ () Set.univ := fun t => by
  obtain rfl := fin_N0 t
  rw [bigSep_W0, bigSep_W0]
  show iprop(Φ₀ m c ∗ (dat m c).owesAt () t0_0.castSucc ∗ ∃ d, owns c (Memref.whole cc0_stg0_0) fullShare ((dat m c).before (0 : Fin 1) t0_0 d))
    ⊢ wp frame (wpE (defs₀ (F := F)) 𝒱₀ c none) Set.univ
      (cc0_body (Memref.whole main_v1) (Memref.isWhole_whole _) (Memref.whole cc0_stg0_0) (Memref.isWhole_whole _) (Memref.whole cc0_scratch0)
        (Memref.isWhole_whole _) (Memref.whole cc0_scratch1) (Memref.isWhole_whole _) (Memref.whole cc0_scratch2) (Memref.isWhole_whole _)
        cc0_scratch3 cc0_scratch4 cc0_scratch5 cc0_scratch6 cc0_scratch7 cc0_scratch8 cc0_scratch9)
      fun _ => iprop(Φ₁ m c ∗ (dat m c).owesAt () t0_0.succ ∗ owns c (Memref.whole cc0_stg0_0) fullShare (outF (XX m) c))
  simp only [owns_buf]
  unfold Φ₀ Φ₁ Xk Yk
  rw [own0_eq]
  iintro ⟨⟨⟨⟨%K, #Hr⟩, Hop, Ht, Hc⟩, Hx, ⟨Hb, Hrr, Hs⟩, Hp⟩, HO, ⟨%d, %g, %hg, Ho⟩⟩
  iapply (body_whole (XX m) K c _)
  isplitr; · iexact Hr
  isplitr [Hp]
  · isplitl [HO]
    · iapply (owesL_out m c t0_0.castSucc (rest 0) rfl); iexact HO
    isplitl [Ht]; · iexact Ht
    isplitl [Hc]; · iexact Hc
    isplitl [Hop]; · iexact Hop
    isplitl [Ho]; · unfold someO; iexists g; iexact Ho
    isplitl [Hb]; · iexact Hb
    isplitl [Hrr]; · iexact Hrr
    isplitl [Hs] <;> iassumption
  iintro ⟨HO, Zb, Zk, Ho, Hb, Hrr, Hs, Hx⟩
  isplitr [HO Ho]
  · isplitl [Zb Zk]
    · isplitl [Zb]; · iexact Zb
      iexact Zk
    isplitl [Hx]; · iexact Hx
    isplitr [Hp]
    · isplitl [Hb]; · iexact Hb
      isplitl [Hrr] <;> iassumption
    iexact Hp
  isplitl [HO]
  · iapply (owesL_in m c t0_0.succ [] rfl); iexact HO
  iexists _
  isplitr; · ipureintro; rfl
  unfold fullO; iexact Ho

/-- The one block of the window is the whole array, so it ends at the output block. -/
theorem final (c : Dev nD) : (dat m c).arrAt (0 : Fin 1) cfg0.N = outF (XX m) c := by
  have hr : ∀ i : S4096x1024.Idx, (i 0).val < 4096 ∧ (i 1).val < 1024 := fun i => ⟨(i 0).isLt, (i 1).isLt⟩
  refine (dat m c).arrAt_eq_of_cover (0 : Fin 1) (outF (XX m) c) (fun t _ => ?_) fun i => ⟨t0_0, by decide, ?_⟩
  · obtain rfl := fin_N0 t
    unfold Dat.flushed
    funext x
    refine congrArg (outF (XX m) c) (Shape.idx_ext₂ ?_ ?_)
    · show (x 0).val = win0_0.index t0_0 0 * win0_0.size 0 + 1 * (x 0).val
      rw [show win0_0.index t0_0 0 = 0 from by decide +kernel]; omega
    · show (x 1).val = win0_0.index t0_0 1 * win0_0.size 1 + 1 * (x 1).val
      rw [show win0_0.index t0_0 1 = 0 from by decide +kernel]; omega
  · show i ∈ ((View.whole main_v2).slice (win0_0.rect t0_0)).set
    rw [View.set_slice_whole, Rect.mem_set_unit]
    intro a
    have h := hr i
    match a with
    | 0 => show 0 * 4096 ≤ (i 0).val ∧ (i 0).val < 0 * 4096 + 4096; omega
    | 1 => show 0 * 1024 ≤ (i 1).val ∧ (i 1).val < 0 * 1024 + 1024; omega

/-! ## The region -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_pos (c : Dev nD) (t : Fin (cfg0.N + 1)) (g : GSem nD τ sig) (i : Unit) (h : 0 < (dat m c).owed t g i) : i ∈ L g ∧ 0 < lv g i := by
  obtain ⟨t, ht⟩ := t
  cases t with
  | zero =>
    obtain ⟨p, -, rfl⟩ := owe_pos c pays h
    exact ⟨by cases i; exact (L_tc _ _).symm ▸ Finset.mem_singleton_self _, by rw [lv_gcell]; exact clv_pay p⟩
  | succ => exact absurd h (Nat.lt_irrefl 0)

theorem cell_stage : ∀ (w : Fin 1) (s : Fin (spec0 w).nbuf), cellAt (SemLoc.dma ((spec0 w).sem s)) = none := fun w s =>
  dif_neg fun ⟨k, hk⟩ => (by decide : ∀ (k : Cell) (w : Fin 1) (s : Fin (spec0 w).nbuf), csem k ≠ SemLoc.dma ((spec0 w).sem s)) k w s hk
theorem lv_stage (c : Dev nD) (w : Fin 1) (s : Fin (spec0 w).nbuf) : lv ((c : Thread nD τ), SemLoc.dma ((spec0 w).sem s)) () ≤ 0 := by
  unfold lv; rw [cell_stage w s]

theorem share_full (c : Dev nD) (w : Fin cfg0.W) : (dat m c).share w = fullShare := by unfold Dat.share; split <;> rfl

theorem region_in (c : Dev nD) : iprop(Pipeline.scopedRest (Pipeline.pin (pcfgs (F := F)) adm 0).spec c ∗ (∃ r, prngReg c r)
      ∗ StableHlo.held (c.tc : Thread nD τ) inBuf (W₁ m c) ∗ Xk m c)
    ⊢ (pdats m 0 c).Φ 0 := by
  rw [show (pdats m 0 c).Φ 0 = Φ₀ m c from rfl, inBuf_eq,
    show (Pipeline.scopedRest (Pipeline.pin (pcfgs (F := F)) adm 0).spec c : sProp 𝕄) = iprop(someB c ∗ someR c ∗ someS c) from scopedRest0_eq c]
  unfold Φ₀ fullX
  iintro ⟨Hs, Hp, Hx, Hk⟩
  isplitl [Hk]; · iexact Hk
  isplitl [Hx]; · iexact Hx
  isplitl [Hs] <;> iassumption

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) inBuf (W₂ m c) ∗ Pipeline.ownSems0 osem c ∗ Yk c) := by
  rw [show (pdats m 0 c).Φ (Fin.last _) = Φ₁ m c from rfl, inBuf_eq, W₂_v1,
    show (Pipeline.scopedRest (Pipeline.pin (pcfgs (F := F)) adm 0).spec c : sProp 𝕄) = iprop(someB c ∗ someR c ∗ someS c) from scopedRest0_eq c]
  unfold Φ₁ fullX
  iintro ⟨⟨Zb, Zk⟩, Hx, Hs, Hp⟩
  isplitl [Hs]; · iexact Hs
  isplitl [Hp]; · iexact Hp
  isplitl [Hx]; · iexact Hx
  isplitl [Zk] <;> iassumption

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem ownFacts
    inBuf inBuf (Finset.Subset.refl _) kit rfl (fun c => (body_ok m c).loose)
    (fun _ => 0) (fun c => owe c pays) (fun c => (zero_add _).symm) (fun c => rfl) (fun _ => rfl) (fun c w => share_full m c w)
    (W₁ m) (W₂ m) (fun _ b hb => absurd hb (by rw [Finset.sdiff_self]; exact Finset.notMem_empty b))
    (Tk m) Yk (Xk m) Yk (open_own m) (region_in m) (region_out m)
    (fun c => by iintro H; imodintro; iexact H)
    (fun _ => 0)
    ⟨fun c w s => by rw [L_tc]; exact Finset.mem_singleton_self _, fun c w s => lv_stage c w s, fun c t g i h => owed_pos m c t g i h⟩
    (fun c => ((c : Thread nD τ).loc main_arg0) ↦{fullShare} m ((c : Thread nD τ).loc main_arg0))
    (fun c w => rfl) (fun c w => by obtain rfl : w = (0 : Fin 1) := Subsingleton.elim _ _; exact (final m c).trans (W₂_v2 m c).symm)

theorem region_pre (c : Dev nD) : iprop(StableHlo.held (c : Thread nD τ) hbm (W₁ m c) ∗ Tk m c ∗ (∃ r, prngReg c r) ∗ owesL c pays) ⊢ (region m).pre c := by
  show _ ⊢ iprop(StableHlo.held (c.tc : Thread nD τ) (Pipeline.arrRefs (τ := τ) (pcfgs (F := F) 0).spec) (W₁ m c) ∗ (∃ r, prngReg c r)
    ∗ (StableHlo.held (c.tc : Thread nD τ) inBuf (W₁ m c) ∗ ((c : Thread nD τ).loc main_arg0) ↦{fullShare} m ((c : Thread nD τ).loc main_arg0))
    ∗ Tk m c ∗ ∃ Wd, owes (c : Thread nD τ) (0 + owe c pays) Wd)
  rw [arr_eq, inBuf_eq, hbm_eq, zero_add, W₁_arg0]
  unfold owesL
  iintro ⟨⟨Ha, Hx, Ho⟩, Ht, Hp, HO⟩
  isplitl [Ho]; · iexact Ho
  isplitl [Hp]; · iexact Hp
  isplitl [Ha Hx]; · isplitl [Hx] <;> iassumption
  isplitl [Ht] <;> iassumption

/-- A device at the end: its argument as launched, the result at the output block, its barrier closed. -/
def Tₙ (c : Dev nD) : sProp 𝕄 :=
  iprop((((c : Thread nD τ).loc main_arg0) ↦{fullShare} m ((c : Thread nD τ).loc main_arg0)) ∗ (((c : Thread nD τ).loc main_v2) ↦{fullShare} outF (XX m) c)
    ∗ semVal (gcell c .bar) 0)

theorem region_post (c : Dev nD) : (region m).post c ⊢ iprop(Tₙ m c ∗ ∃ W, owes (c.tc : Thread nD τ) (0 : CellTallies nD τ sig Unit) W) := by
  show iprop(StableHlo.held (c.tc : Thread nD τ) (Pipeline.arrRefs (τ := τ) (pcfgs (F := F) 0).spec) (W₂ m c) ∗ (∃ r, prngReg c r)
    ∗ (StableHlo.held (c.tc : Thread nD τ) inBuf (W₂ m c) ∗ ((c : Thread nD τ).loc main_arg0) ↦{fullShare} m ((c : Thread nD τ).loc main_arg0))
    ∗ Yk c ∗ ∃ Wd, owes (c : Thread nD τ) (0 : CellTallies nD τ sig Unit) Wd) ⊢ _
  rw [arr_eq, W₂_v2]
  unfold Tₙ Yk
  iintro ⟨Ho, -, ⟨-, Ha⟩, Hb, HO⟩
  isplitr [HO]
  · isplitl [Ha]; · iexact Ha
    isplitl [Ho] <;> iassumption
  iexact HO

end Cert.KernelIdeal.Proof

end
-- ==== Proof.Run.lean ====
/-
# `Run`: the launch and the run of the whole program

At launch every semaphore's invariant is allocated, the scoped ones asleep, and tokens and credits
are dealt: each device gets the tokens of the duties it pays and the credit of its own semaphores.
Then the program is its one reshape followed by the region, and at its end every device's argument is
as launched, its result is the output block, and every semaphore reads zero.
-/
module

public import proofs.«01_k».proof.Proof.Region
public import Idealize.ShloMosaic.Lib.Quiescent

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What is allocated -/

def barEmb : Dev nD ↪ GSem nD τ sig := ⟨fun c => gcell c .bar, fun c c' h => (Prod.ext_iff.mp (gcell_injective (a₁ := (c, Cell.bar)) (a₂ := (c', Cell.bar)) h)).1⟩
def ownEmb : Dev nD × Own ↪ GSem nD τ sig := ⟨fun ck => gcell ck.1 ck.2.1, fun a b h => by
  have e := Prod.ext_iff.mp (gcell_injective (a₁ := (a.1, a.2.1)) (a₂ := (b.1, b.2.1)) h)
  exact Prod.ext e.1 (Subtype.ext e.2)⟩
/-- Every device's barrier, at its counter; its other semaphores, asleep. -/
abbrev barCells : Finset (GSem nD τ sig) := Finset.univ.map barEmb
abbrev ownCells : Finset (GSem nD τ sig) := Finset.univ.map ownEmb

/-- The duties: the seven of a barrier, the one of every other semaphore. -/
abbrev Tok : Type := Fin 7 ⊕ Own
def tokOf (p : Dev nD × Tok) : GSem nD τ sig × ℕ × Fin 7 := match p.2 with
  | .inl d => (gcell p.1 .bar, 0, d)
  | .inr k => (gcell p.1 k.1, 0, 0)
theorem tokOf_injective : Function.Injective tokOf := by
  rintro ⟨c, t⟩ ⟨c', t'⟩ h
  have hg := congrArg Prod.fst h
  have hd := congrArg (fun x : GSem nD τ sig × ℕ × Fin 7 => x.2.2) h
  rcases t with d | k <;> rcases t' with d' | k'
  · have e := Prod.ext_iff.mp (gcell_injective (a₁ := (c, Cell.bar)) (a₂ := (c', Cell.bar)) hg)
    exact Prod.ext e.1 (congrArg Sum.inl hd)
  · exact absurd (Prod.ext_iff.mp (gcell_injective (a₁ := (c, Cell.bar)) (a₂ := (c', k'.1)) hg)).2.symm k'.2
  · exact absurd (Prod.ext_iff.mp (gcell_injective (a₁ := (c, k.1)) (a₂ := (c', Cell.bar)) hg)).2 k.2
  · have e := Prod.ext_iff.mp (gcell_injective (a₁ := (c, k.1)) (a₂ := (c', k'.1)) hg)
    exact Prod.ext e.1 (congrArg Sum.inr (Subtype.ext e.2))
abbrev allToks : Finset (GSem nD τ sig × ℕ × Fin 7) := Finset.univ.map ⟨tokOf, tokOf_injective⟩

theorem cells_disjoint : Disjoint barCells ownCells := by
  rw [Finset.disjoint_left]
  rintro g h h'
  obtain ⟨c, -, rfl⟩ := Finset.mem_map.mp h
  obtain ⟨ck, -, e⟩ := Finset.mem_map.mp h'
  exact ck.2.2 (Prod.ext_iff.mp (gcell_injective (a₁ := (ck.1, ck.2.1)) (a₂ := (c, Cell.bar)) e)).2

theorem mem_cells (c : Dev nD) (k : Cell) : gcell c k ∈ barCells ∪ ownCells := by
  by_cases h : k = .bar
  · subst h; exact Finset.mem_union_left _ (Finset.mem_map_of_mem barEmb (Finset.mem_univ c))
  · exact Finset.mem_union_right _ (Finset.mem_map_of_mem ownEmb (Finset.mem_univ (c, (⟨k, h⟩ : Own))))

/-- The ghost state at launch: the pipeline library's and the protocol's. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- The protocol's, kept by device 0 until it is dealt. -/
def G (c : Dev nD) : sProp 𝕄 := if c = 0 then BI.own (ER (launchOf barCells ownCells allToks)) else iprop(emp)
theorem G_all : (bigSep Finset.univ G : sProp 𝕄) = BI.own (ER (launchOf barCells ownCells allToks)) := by
  rw [bigSep_univ_at _ (0 : Dev nD), bigSep_congr (s := Finset.univ.erase 0) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

/-! ## The tokens -/

section Tokens
omit [FloatOps F]

theorem all_toks : (bigSep allToks fun x => (dutyTok ER x.1 x.2.1 x.2.2 : sProp 𝕄))
    = bigSep Finset.univ fun c : Dev nD => iprop((bigSep Finset.univ fun d : Fin 7 => tok c .bar d) ∗ bigSep Finset.univ fun k : Own => tok (F := F) c k.1 0) := by
  rw [bigSep_map, bigSep_univ_prod]
  exact bigSep_congr fun c _ => by rw [sum2]; rfl

/-- A family dealt to where each member's duty is paid. -/
theorem around {I : Type} [Fintype I] (f g : I → Dev nD → Dev nD) (h : ∀ i c, g i (f i c) = c) (h' : ∀ i c, f i (g i c) = c) (Φ : Dev nD → I → sProp 𝕄) :
    (bigSep Finset.univ fun c : Dev nD => bigSep Finset.univ fun i : I => Φ c i) = bigSep Finset.univ fun c : Dev nD => bigSep Finset.univ fun i : I => Φ (f i c) i := by
  rw [← bigSep_univ_prod (fun p : Dev nD × I => Φ p.1 p.2), ← bigSep_univ_prod (fun p : Dev nD × I => Φ (f p.2 p.1) p.2),
    bigSep_univ_equiv (⟨fun p => (f p.2 p.1, p.2), fun p => (g p.2 p.1, p.2), fun p => Prod.ext (h p.2 p.1) rfl, fun p => Prod.ext (h' p.2 p.1) rfl⟩ : Dev nD × I ≃ Dev nD × I)]
  rfl

theorem deal_toks : (bigSep allToks fun x => (dutyTok ER x.1 x.2.1 x.2.2 : sProp 𝕄)) ⊢ bigSep Finset.univ fun c : Dev nD => toks (F := F) c := by
  rw [all_toks]
  unfold toks
  have e : (bigSep Finset.univ fun c : Dev nD => bigSep Finset.univ fun k : Own => tok (F := F) c k.1 0)
      = iprop((bigSep Finset.univ fun c : Dev nD => bigSep Finset.univ fun p : Fin 4 × Fin 4 => tok c (.cp p.1 p.2) 0)
        ∗ (bigSep Finset.univ fun c : Dev nD => bigSep Finset.univ fun s : Site => tok c (.snd s) 0)
        ∗ bigSep Finset.univ fun c : Dev nD => bigSep Finset.univ fun s : Site => tok c (.rcv s) 0) := by
    rw [← bigSep_sep', ← bigSep_sep']
    exact bigSep_congr fun c _ => big_own fun k => tok (F := F) c k.1 0
  rw [bigSep_sep', e, bigSep_sep', bigSep_sep', bigSep_sep',
    around barTo barFr (fun d c => barFr_barTo c d) (fun d c => barTo_barFr c d) (fun c d => tok (F := F) c .bar d),
    around Site.to Site.fr Site.fr_to Site.to_fr (fun c s => tok (F := F) c (.rcv s) 0)]

/-- Two families held are one of pairs, and back. -/
theorem pairUp (Φ Ψ : Dev nD → sProp 𝕄) : iprop((bigSep Finset.univ Φ) ∗ bigSep Finset.univ Ψ) ⊢ bigSep Finset.univ fun c => iprop(Φ c ∗ Ψ c) :=
  Entails.of_eq (bigSep_sep' _ _ _).symm
theorem pairOff (Φ Ψ : Dev nD → sProp 𝕄) : (bigSep Finset.univ fun c => iprop(Φ c ∗ Ψ c)) ⊢ iprop((bigSep Finset.univ Φ) ∗ bigSep Finset.univ Ψ) :=
  Entails.of_eq (bigSep_sep' _ _ _)

end Tokens

/-! ## The credits -/

theorem pays_all : pays.Nodup ∧ pays.toFinset = Finset.univ := by decide

theorem owe_apply (d : Dev nD) (g : GSem nD τ sig) (u : Unit) : ∀ l : List Pay, owe d l g u = (l.map fun p => owe1 d p g u).sum
  | [] => rfl
  | p :: l => by
    unfold owe
    rw [Pi.add_apply, Finsupp.add_apply, owe_apply d g u l, List.map_cons, List.sum_cons, Nat.add_comm]

theorem owe1_apply (d : Dev nD) (p : Pay) (c : Dev nD) (k : Cell) :
    owe1 d p (gcell c k) () = if d = p.fr c then (if p.cell = k then amt k else 0) else 0 := by
  unfold owe1
  rw [tallyAt_apply]
  by_cases h : d = p.fr c
  · rw [if_pos h]
    subst h
    rw [Pay.to_fr]
    by_cases hk : p.cell = k
    · subst hk; rw [if_pos ⟨rfl, rfl⟩, if_pos rfl]
    · rw [if_neg hk, if_neg fun hh => hk (Prod.ext_iff.mp (gcell_injective (a₁ := (c, k)) (a₂ := (c, p.cell)) hh.1)).2.symm]
  · rw [if_neg h, if_neg fun hh => h ?_]
    have e := (Prod.ext_iff.mp (gcell_injective (a₁ := (c, k)) (a₂ := (p.to d, p.cell)) hh.1)).1
    have e : c = p.to d := e
    rw [e, Pay.fr_to]

/-- What all the devices owe a semaphore. -/
theorem owed_all (c : Dev nD) (k : Cell) : (∑ d : Dev nD, owe d pays (gcell c k) ()) = ∑ p : Pay, if p.cell = k then amt k else 0 := by
  have h (d : Dev nD) : owe d pays (gcell c k) () = ∑ p : Pay, owe1 d p (gcell c k) () := by
    rw [owe_apply, ← List.sum_toFinset _ pays_all.1, pays_all.2]
  rw [Finset.sum_congr rfl fun d _ => h d, Finset.sum_comm]
  refine Finset.sum_congr rfl fun p _ => ?_
  rw [Finset.sum_congr rfl fun d _ => owe1_apply d p c k, Finset.sum_ite_eq' Finset.univ (p.fr c) fun _ => if p.cell = k then amt k else 0, if_pos (Finset.mem_univ _)]

theorem owed_bar (c : Dev nD) : (∑ d : Dev nD, owe d pays (gcell c .bar) ()) = 7 := by
  rw [owed_all, ← Equiv.sum_comp payEquiv, Fintype.sum_sum_type,
    Finset.sum_congr rfl fun (d : Fin 7) _ => if_pos (show (payEquiv (.inl d)).cell = .bar from rfl),
    Finset.sum_congr rfl fun (s : Site) _ => if_neg (show (payEquiv (.inr s)).cell ≠ .bar from nofun)]
  show (∑ _ : Fin 7, 1) + ∑ _ : Site, 0 = 7
  rw [Finset.sum_const_zero, Finset.sum_const]; rfl
theorem owed_rcv (c : Dev nD) (s : Site) : (∑ d : Dev nD, owe d pays (gcell c (.rcv s)) ()) = amt (.rcv s) := by
  rw [owed_all, ← Equiv.sum_comp payEquiv, Fintype.sum_sum_type,
    Finset.sum_congr rfl fun (d : Fin 7) _ => if_neg (show (payEquiv (.inl d)).cell ≠ .rcv s from nofun), Finset.sum_const_zero, Nat.zero_add,
    Fintype.sum_eq_single (f := fun s' : Site => if (payEquiv (.inr s')).cell = .rcv s then amt (.rcv s) else 0) s
      fun s' hs => if_neg (show Cell.rcv s' ≠ .rcv s from fun h => hs (Cell.rcv.inj h))]
  exact if_pos rfl

theorem credit_at (c : Dev nD) (k : Cell) (n : ℕ) (h : (∑ d : Dev nD, owe d pays (gcell c k) ()) = n) :
    tallyOn (gcell c k) (launchCredit (Pipeline.owing fun d : Dev nD => owe d pays) 0 (gcell c k)) = (tallyAt (gcell c k) () n : CellTallies nD τ sig Unit) := by
  unfold tallyAt; refine congrArg _ (Finsupp.ext fun u => ?_); cases u
  rw [Pipeline.launchCredit_owing, Finsupp.single_eq_same, h]

theorem deal_creds (c : Dev nD) : (Pipeline.launchCred (fun d : Dev nD => owe d pays) c : sProp 𝕄) ⊢ crds c := by
  unfold Pipeline.launchCred crds crd
  have hi : Function.Injective (fun k : Unit ⊕ Site => csem (match k with | .inl _ => .bar | .inr s => .rcv s)) := by
    rintro (a | s) (b | s') h
    · rfl
    · exact absurd (csem_injective h) nofun
    · exact absurd (csem_injective h) nofun
    · exact congrArg Sum.inr (Cell.rcv.inj (csem_injective h))
  refine (bigSep_subset (Finset.subset_univ (Finset.univ.map ⟨_, hi⟩))).trans ?_
  rw [bigSep_map, sum2]
  refine sep_mono ?_ (bigSep_mono fun s _ => ?_)
  · rw [Finset.univ_unique, BI.bigSep_singleton]
    exact Entails.of_eq (congrArg cred (credit_at c .bar 7 (owed_bar c)))
  · exact Entails.of_eq (congrArg cred (credit_at c (.rcv s) _ (owed_rcv c s)))

/-! ## The run -/

/-- What a device carries past its host code to the region. -/
def R (c : Dev nD) : sProp 𝕄 := iprop(Tk m c ∗ (∃ r, prngReg c r) ∗ owesL c pays)
abbrev T₀ (c : Dev nD) : sProp 𝕄 := iprop(StableHlo.held (c : Thread nD τ) hbm (W₀ m c) ∗ R m c)

theorem barSems (c : Dev nD) : (unscopedSems0 c : sProp 𝕄) = semVal (gcell c .bar) 0 := by
  unfold unscopedSems0
  rw [show (Finset.univ.filter fun sm : SemLoc sig => ¬ sm.isScoped .tc) = {SemLoc.reg barS} from by decide, BI.bigSep_singleton]
  rfl
theorem unscoped_bar : ∀ sm : SemLoc sig, sm.isScoped .tc = false → sm = .reg barS := by decide

/-- The program's host code. -/
def host : Pipeline.HostSeg (Name := ℕ) (U := UU) (pcfgs (F := F)) defs₀ 𝒱₀ L lv :=
  Pipeline.HostSeg.ofOps _ _ _ _ _ hbm hostOps0 (fun op h => by
    simp only [List.mem_singleton] at h; subst h
    show ({Proc.devRef .tc main_arg0, Proc.devRef .tc main_v1} : Finset (DevRef τ sig)) ⊆ hbm; decide)
    (List.forall_iff_forall_mem.mp hostOps0_fresh) (W₀ m) (R m)

def segs : List (Pipeline.Seg (pcfgs (F := F)) adm (pdats m) () defs₀ 𝒱₀ L lv) := [.host (host m), .region (region m)]

theorem init :
    iprop((bigSep Finset.univ fun c : Dev nD => iprop(unscopedBufs c (fun b => m ((c : Thread nD τ).loc b)) ∗ unscopedSems0 c
          ∗ owes (c : Thread nD τ) (owe c pays) ∅ ∗ Pipeline.launchCred (fun d : Dev nD => owe d pays) c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owe c pays) ∅ ∗ Pipeline.launchCred (fun d : Dev nD => owe d pays) c ∗ prngReg c (ρ c) ∗ G c)
      ⊢ (iprop((StableHlo.held (c : Thread nD τ) hbm (W₀ m c) ∗ crds c ∗ owesL c pays ∗ ∃ r, prngReg c r) ∗ semVal (gcell c .bar) 0 ∗ G c) : sProp 𝕄) := by
    rw [show unscopedBufs c (fun b => m ((c : Thread nD τ).loc b)) = StableHlo.held (c : Thread nD τ) hbm (W₀ m c) from hbm_held c (W₀ m c), barSems]
    unfold owesL
    iintro ⟨Hh, Hb, HO, Hc, Hp, HG⟩
    ihave Hc := (deal_creds (F := F) c) $$ Hc
    isplitr [Hb HG]
    · isplitl [Hh]; · iexact Hh
      isplitl [Hc]; · iexact Hc
      isplitl [HO]; · iexists ∅; iexact HO
      iexists (ρ c); iexact Hp
    isplitl [Hb] <;> iassumption
  iintro ⟨H, -⟩
  ihave H := (show _ ⊢ _ from bigSep_mono (s := Finset.univ) fun c _ => hcore c) $$ H
  ihave H := (pairOff _ _) $$ H; icases H with ⟨HB, H⟩
  ihave H := (pairOff _ _) $$ H; icases H with ⟨Hv, HG⟩
  ihave HG := (Entails.of_eq (G_all (F := F))) $$ HG
  imod (Rounds.fund_launch ER (Rd (XX m)) cells_disjoint (fun g _ h => h) allToks) $$ [Hv HG] with ⟨%κ, -, #Hinv, #Hr, Hat, Hop, Htok⟩
  · isplitl [Hv]
    · iapply (Entails.of_eq (bigSep_map (s := Finset.univ) barEmb (Φ := fun g : GSem nD τ sig => (semVal g 0 : sProp 𝕄))).symm); iexact Hv
    iexact HG
  ihave Hat := (Entails.of_eq (bigSep_map (s := Finset.univ) barEmb (Φ := fun g : GSem nD τ sig => (atPos ER g 0 ∅ 0 : sProp 𝕄)))) $$ Hat
  ihave #Hr := (Entails.of_eq (bigSep_map (s := Finset.univ) barEmb (Φ := fun g : GSem nD τ sig => (reached ER g 0 : sProp 𝕄)))) $$ Hr
  ihave Hop := (Entails.of_eq ((bigSep_map (s := Finset.univ) ownEmb (Φ := fun g : GSem nD τ sig => (openTok ER g : sProp 𝕄))).trans (bigSep_univ_prod _))) $$ Hop
  ihave Htok := (deal_toks (F := F)) $$ Htok
  ihave #Hk := (show iprop((bigSep (barCells ∪ ownCells) fun g => (cellInv ER (Rd (XX m)) (κ g) g : sProp 𝕄)) ∗ bigSep Finset.univ fun c : Dev nD => reached ER (gcell c .bar) 0)
      ⊢ know (XX m) (fun ck => κ (gcell ck.1 ck.2)) from sep_mono
        (BI.bigSep_intro_persistent fun ck _ => bigSep_elim (Φ := fun g => (cellInv ER (Rd (XX m)) (κ g) g : sProp 𝕄)) (mem_cells ck.1 ck.2)) .rfl) $$ []
  · isplitl []
    · iexact Hinv
    iexact Hr
  imodintro
  iapply (bigSep_with_persistent (R := know (XX m) (fun ck => κ (gcell ck.1 ck.2)))
    (Φ := fun c : Dev nD => iprop((StableHlo.held (c : Thread nD τ) hbm (W₀ m c) ∗ crds c ∗ owesL c pays ∗ ∃ r, prngReg c r)
      ∗ opn c .bar ∗ (bigSep Finset.univ fun k : Own => openTok ER (gcell c k.1)) ∗ toks c)) (Ψ := T₀ m) fun c _ => by
      unfold T₀ R Tk
      iintro ⟨#Hk, ⟨Hh, Hc, HO, Hp⟩, Hb, Ho, Ht⟩
      isplitl [Hh]; · iexact Hh
      isplitr [HO Hp]
      · isplitr; · iexists _; iexact Hk
        isplitl [Hb]; · iexact Hb
        isplitl [Ho]; · iexact Ho
        isplitl [Ht] <;> iassumption
      isplitl [Hp] <;> iassumption)
  isplitr; · iexact Hk
  iapply (pairUp _ _); isplitl [HB]; · iexact HB
  iapply (pairUp _ _); isplitl [Hat]; · iexact Hat
  iapply (pairUp _ _); isplitl [Hop]
  · iexact Hop
  iexact Htok

set_option backward.isDefEq.respectTransparency.types false in
/-- From any memory with zero counters every weakly fair run of the program ends, with every device's
    argument as launched, its result at the output block and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v2) = outF (XX m) c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host m) (region m) rfl c]; exact .rfl)
    (by simp only [segs, Pipeline.Seg.pipes_host, Pipeline.Seg.pipes_region, Pipeline.Seg.pipes_nil]; decide)
    (O₀ := fun c => owe c pays) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => ?_, fun c => region_post m c⟩
      refine BIBase.Entails.trans ?_ (region_pre m c)
      show iprop(StableHlo.held (c : Thread nD τ) hbm (W₁ m c) ∗ R m c) ⊢ _
      unfold R
      iintro H; iexact H)
    (hinit := init m ρ)
    (QY := fun c s => (s.mem ((c : Thread nD τ).loc main_arg0) = m ((c : Thread nD τ).loc main_arg0) ∧ s.mem ((c : Thread nD τ).loc main_v2) = outF (XX m) c)
      ∧ s.sem (gcell c .bar) = 0)
    (hfin := fun c s' => by
      unfold Tₙ
      iintro ⟨⟨Ha, Ho, Hb⟩, HSI⟩
      icombine HSI Ha gives %ha
      icombine HSI Ho gives %ho
      icombine HSI Hb gives %hb
      imodintro
      isplitr
      · ipureintro
        exact ⟨⟨Buf.eq_of_forall_mem_univ ha, Buf.eq_of_forall_mem_univ ho⟩, by simpa using hb⟩
      iexact HSI)
    (hQ := fun s h hs => ⟨fun c => (h c).1, sem_eq_zero hs fun c sm hsm => by
      obtain rfl := unscoped_bar sm hsm
      exact (h c).2⟩)

end Cert.KernelIdeal.Proof

end
-- ==== Proof.Value.lean ====
/-
# `Value`: the output block is the reference's

Over the reals a rounding is the identity and a sum has no order.  Each device's argument is its slab of
the whole array, so the four tiles added at an element are that element of the four slabs: the
reference's sum along the first dimension, at the column block the device holds.
-/
module

public import proofs.«01_k».proof.Proof.Run
public import proofs.«01_k».proof.Proof.Gen.ReferenceIdeal.Run
public import Idealize.ShloMosaic.Lib.Layout
public import Idealize.ShloMosaic.Lib.ValueLayout
public import Idealize.ShloMosaic.Lib.IdealHost
public import Idealize.ShloMosaic.Lib.Pointwise.Reduce

@[expose] public section

set_option backward.proofsInPublic true

noncomputable section

namespace Cert.KernelIdeal.Proof

open Cert.KernelIdeal Cert.KernelIdeal.Gen
open Idealize.ShloMosaic
open Idealize.ShloMosaic.TcCoe

/-- The whole argument and one device's slab of it, as arrays. -/
abbrev Whole : Type := (⟨3, ![4, 4096, 4096]⟩ : Shape).Idx → EReal
abbrev Slab : Type := (⟨3, ![1, 4096, 4096]⟩ : Shape).Idx → EReal

theorem slab_lt (k : ℕ) : k % 4 < 4 := Nat.mod_lt _ (by decide)
theorem at_lt (r : ℕ) : r % 4096 < 4096 := Nat.mod_lt _ (by decide)

/-- Slab `k`, row `r`, column `q` of the whole argument. -/
def el (A : Whole) (k r q : ℕ) : EReal :=
  A (ValueIdx.ix3 ⟨k % 4, slab_lt k⟩ ⟨r % 4096, at_lt r⟩ ⟨q % 4096, at_lt q⟩)

theorem at2_eq (r q : ℕ) : at2 r q = ValueIdx.ix2 ⟨r % 4096, at_lt r⟩ ⟨q % 4096, at_lt q⟩ :=
  funext fun b => match b with | ⟨0, _⟩ => rfl | ⟨1, _⟩ => rfl

section Element
variable {A : Whole} {m : (ℓ : Loc nD τ sig) → Buf (Elt Ideal) ℓ}
  (hA : ∀ c : Dev nD, (m ((c : Thread nD τ).loc main_arg0) : Slab) = Layout.blockN ⟨3, ![1, 4096, 4096]⟩ ⟨3, ![4, 4096, 4096]⟩ (Layout.meshBlock [2, 4, 4] ![[1], [], []] c) A)

/-- What the region reads of a device's argument: the reshaped slab. -/
theorem XX_eq (c : Dev nD) : XX m c = shapeCast S4096x4096 (m ((c : Thread nD τ).loc main_arg0) : Slab) shapeCasts_S1x4096x4096_S4096x4096 := by
  show StableHlo.after hostOps0 (fun b => m (c, b)) main_v1 = _
  after_results
  rfl

include hA in
theorem XX_el (c : Dev nD) (r q : ℕ) : XX m c (at2 r q) = el A (c.val / 4) r q := by
  rw [XX_eq, at2_eq]
  refine (ValueIdx.shapeCast_1ab_ab_apply _ _ _ _).trans ?_
  rw [hA, Layout.blockN_apply]
  refine congrArg A (funext fun b => Fin.ext ?_)
  rw [Layout.TilesN.idx_val]
  match b with
  | ⟨0, _⟩ => show (c.val / (4 * 1) % 4 * 1 + 0) * 1 + 0 = c.val / 4 % 4; omega
  | ⟨1, _⟩ => show 0 * 4096 + r % 4096 = r % 4096; omega
  | ⟨2, _⟩ => show 0 * 4096 + q % 4096 = q % 4096; omega

include hA in
theorem cvt_el (c : Dev nD) (t h a b : ℕ) : cvt (XX m) c t h a b = el A (c.val / 4) (ro c 0 + a) (co c t h + b) := XX_el hA c _ _

theorem el_congr {k k' r r' q q' : ℕ} (hk : k % 4 = k') (hr : r = r') (hq : q = q') : el A k r q = el A k' r' q' := by
  subst hk hr hq
  unfold el
  simp only [Nat.mod_mod]

/-- Coordinates of the device that adds a row, and of one back along `y`. -/
theorem owner_at (c : Dev nD) (r : ℕ) : (owner c r).val / 16 = r / 512 % 2 ∧ (owner c r).val / 4 % 4 = c.val / 4 % 4 ∧ (owner c r).val % 4 = r / 1024 % 4 := by
  have hq : (16 * (r / 512 % 2) + 4 * (c.val / 4 % 4) + r / 1024 % 4) / 4 = 4 * (r / 512 % 2) + c.val / 4 % 4 := by omega
  simp only [owner]; rw [hq]; omega
theorem yFr_at (j : Fin 3) (c : Dev nD) : (yFr j c).val / 16 = c.val / 16 ∧ (yFr j c).val / 4 % 4 = (c.val / 4 % 4 + (3 - j.val)) % 4 ∧ (yFr j c).val % 4 = c.val % 4 := by
  have := dlt c; simp only [yFr]; omega

theorem row_at (c d : Dev nD) (r : ℕ) (hr : r < 4096) (hx : d.val / 16 = (owner c r).val / 16) (hz : d.val % 4 = (owner c r).val % 4) : ro d 0 + r % 512 = r := by
  have h := owner_at c r
  unfold ro; omega
theorem col_at (d : Dev nD) (t y k : ℕ) (h : (d.val / 4 % 4 + t + 1) % 4 = y) : co d t (k / 256) + k % 256 = 1024 * y + k := by
  unfold co; rw [h]; omega

/-- The four slabs from any one on, three, two, one places further round. -/
theorem sum_round (f : ℕ → EReal) : ∀ y : Fin 4, f y.val + f ((y.val + 3) % 4) + f ((y.val + 2) % 4) + f ((y.val + 1) % 4) = ∑ k : Fin 4, f k.val
  | 0 => by rw [Fin.sum_univ_four]; show f 0 + f 3 + f 2 + f 1 = f 0 + f 1 + f 2 + f 3; ac_rfl
  | 1 => by rw [Fin.sum_univ_four]; show f 1 + f 0 + f 3 + f 2 = f 0 + f 1 + f 2 + f 3; ac_rfl
  | 2 => by rw [Fin.sum_univ_four]; show f 2 + f 1 + f 0 + f 3 = f 0 + f 1 + f 2 + f 3; ac_rfl
  | 3 => by rw [Fin.sum_univ_four]; show f 3 + f 2 + f 1 + f 0 = f 0 + f 1 + f 2 + f 3; ac_rfl

include hA in
/-- An element of the output block is the sum of the four slabs there. -/
theorem outF_el (c : Dev nD) (i : S4096x1024.Idx) :
    outF (XX m) c i = ∑ k : Fin 4, el A k.val (i 0).val (1024 * (c.val / 4 % 4) + (i 1).val) := by
  have h0 : (i 0).val < 4096 := (i 0).isLt
  have h1 : (i 1).val < 1024 := (i 1).isLt
  have hc : c.val < 32 := c.isLt
  unfold outF tot
  rw [cvt_el hA, cvt_el hA, cvt_el hA, cvt_el hA]
  rw [← sum_round (fun k => el A k (i 0).val (1024 * (c.val / 4 % 4) + (i 1).val)) ⟨c.val / 4 % 4, slab_lt _⟩]
  have ho := owner_at c (i 0).val
  have f0 := yFr_at 0 (owner c (i 0).val)
  have f1 := yFr_at 1 (owner c (i 0).val)
  have f2 := yFr_at 2 (owner c (i 0).val)
  have e0 : (0 : Fin 3).val = 0 := rfl
  have e1 : (1 : Fin 3).val = 1 := rfl
  have e2 : (2 : Fin 3).val = 2 := rfl
  rw [e0] at f0; rw [e1] at f1; rw [e2] at f2
  exact congrArg₂ (· + · : EReal → EReal → EReal) (congrArg₂ (· + · : EReal → EReal → EReal) (congrArg₂ (· + · : EReal → EReal → EReal)
    (el_congr (by show _ = c.val / 4 % 4; omega) (row_at c _ _ h0 rfl rfl) (col_at _ _ _ _ (by omega)))
    (el_congr (by show _ = (c.val / 4 % 4 + 3) % 4; omega) (row_at c _ _ h0 f0.1 f0.2.2) (col_at _ _ _ _ (by omega))))
    (el_congr (by show _ = (c.val / 4 % 4 + 2) % 4; omega) (row_at c _ _ h0 f1.1 f1.2.2) (col_at _ _ _ _ (by omega))))
    (el_congr (by show _ = (c.val / 4 % 4 + 1) % 4; omega) (row_at c _ _ h0 f2.1 f2.2.2) (col_at _ _ _ _ (by omega)))

end Element

/-- The reference's result at an element. -/
theorem ref_el (A : Whole) (r q : ℕ) (j : (⟨2, ![4096, 4096]⟩ : Shape).Idx) (hr : (j 0).val = r) (hq : (j 1).val = q) :
    (truncf .bf16 (Host.reduceAdd (F := Ideal) (φ := .f32) A (constant Cert.ReferenceIdeal.S_ .f32 0x00000000#32) Cert.ReferenceIdeal.Gen.reducesTo_S4x4096x4096_S4096x4096_d0 Cert.ReferenceIdeal.Gen.h_S_)
      Cert.ReferenceIdeal.Gen.bitsLt_bf16_f32 : FVec Ideal Cert.ReferenceIdeal.S4096x4096 .bf16) j = ∑ k : Fin 4, el A k.val r q := by
  show Ideal.hostReduceAdd Cert.ReferenceIdeal.Gen.reducesTo_S4x4096x4096_S4096x4096_d0 A (Ideal.ofBits .f32 0x00000000#32) j = _
  rw [Ideal.ofBits_zero_f32]
  refine (Ideal.hostReduceAdd_r3_a0 _ _ _ _).trans ?_
  rw [zero_add]
  refine Finset.sum_congr rfl fun k _ => congrArg A (funext fun b => Fin.ext ?_)
  have h0 : (j 0).val < 4096 := (j 0).isLt
  have h1 : (j 1).val < 4096 := (j 1).isLt
  match b with
  | ⟨0, _⟩ => exact (Nat.mod_eq_of_lt k.isLt).symm
  | ⟨1, _⟩ => show (j 0).val = r % 4096; omega
  | ⟨2, _⟩ => show (j 1).val = q % 4096; omega

end Cert.KernelIdeal.Proof

end
-- ==== Proof.lean ====
/-
The five claims.  The program's run (`Proof/Run.lean`) is written once over any float values: read at bit
patterns and at extended reals it gives the two frames, and its value, by `Proof/Value.lean`, the
algebraic claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- The two printings of the kernel are one program. -/
theorem body_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => exact rfl
  | ⟨_ + 1, h⟩, _ => exact absurd h (Nat.not_lt.2 (Nat.le_add_left _ _))
theorem defs_eq : Cert.Kernel.defs (F := Bits) = Cert.KernelIdeal.defs (F := Bits) := congrArg (Pipeline.defs Cert.KernelIdeal.pcfgs) body_eq

theorem frame_kernel : Cert.quiescent_Kernel := fun m g _ => by
  rw [defs_eq]
  exact (θ_run Cert.KernelIdeal.defs _ _).mono (fun _ h => ⟨fun c => (h.1 c).1, h.2⟩) (Cert.KernelIdeal.Proof.run_main (F := Bits) m g)

theorem frame_kernelIdeal : Cert.quiescent_KernelIdeal := fun m g _ =>
  (θ_run Cert.KernelIdeal.defs _ _).mono (fun _ h => ⟨fun c => (h.1 c).1, h.2⟩) (Cert.KernelIdeal.Proof.run_main (F := Ideal) m g)

theorem frame_reference : Cert.quiescent_ReferenceIdeal := fun m g _ =>
  (θ_run Cert.ReferenceIdeal.defs _ _).mono (fun r h => ⟨fun c => (h c).2, sem_eq_zero_of_no_sems rfl r.2⟩)
    (Cert.ReferenceIdeal.Value.run (F := Ideal) m g)

/-- Every device's result is its column block of the reference's, over the reals. -/
theorem algebraic : Cert.algebraic_KernelIdeal_ReferenceIdeal := fun m g m' g' _ hA => by
  refine ⟨_, (θ_run Cert.KernelIdeal.defs _ _).mono (fun _ h c => ⟨(h.1 c).2.trans ?_, (h.1 c).1⟩) (Cert.KernelIdeal.Proof.run_main (F := Ideal) m g),
    (θ_run Cert.ReferenceIdeal.defs _ _).mono (fun _ h => h 0) (Cert.ReferenceIdeal.Value.run (F := Ideal) m' g')⟩
  refine funext fun i => (Cert.KernelIdeal.Proof.outF_el hA c i).trans ?_
  rw [Layout.blockN_apply]
  refine (Cert.KernelIdeal.Proof.ref_el _ _ _ _ ?_ ?_).symm
  · rw [Layout.TilesN.idx_val]
    show 0 * 4096 + (i 0).val = (i 0).val; omega
  · rw [Layout.TilesN.idx_val]
    show (c.val / (4 * 1) % 4 * 1 + 0) * 1024 + (i 1).val = 1024 * (c.val / 4 % 4) + (i 1).val; omega

theorem claim : Cert.Claim := ⟨Cert.Kernel.Gen.facts, Cert.KernelIdeal.Gen.facts, Cert.ReferenceIdeal.Gen.facts,
  frame_kernel, frame_kernelIdeal, frame_reference, trivial, algebraic⟩

end Cert.Proof

end
